-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x4096x3 : Shape := ⟨3, ![32, 4096, 3]⟩
abbrev S32x4096x1 : Shape := ⟨3, ![32, 4096, 1]⟩
abbrev S32x4096 : Shape := ⟨2, ![32, 4096]⟩
abbrev S32x1024 : Shape := ⟨2, ![32, 1024]⟩
abbrev S16x4096 : Shape := ⟨2, ![16, 4096]⟩
abbrev S16x1024 : Shape := ⟨2, ![16, 1024]⟩
abbrev S16x128 : Shape := ⟨2, ![16, 128]⟩
abbrev S16x1 : Shape := ⟨2, ![16, 1]⟩
abbrev S16 : Shape := ⟨1, ![16]⟩

abbrev nBuf : Space → Nat
  | .hbm => 8
  | .vmem => 8
  | .smem => 0
  | _ => 0

abbrev bufTy : (tb : Table) → Fin (tcTables nBuf tb) → BufTy
  | .hbm, ⟨0, _⟩ => ⟨S32x4096x3, .f32⟩
  | .hbm, ⟨1, _⟩ => ⟨S32x4096x1, .f32⟩
  | .hbm, ⟨2, _⟩ => ⟨S32x4096, .f32⟩
  | .hbm, ⟨3, _⟩ => ⟨S32x4096x1, .f32⟩
  | .hbm, ⟨4, _⟩ => ⟨S32x4096, .f32⟩
  | .hbm, ⟨5, _⟩ => ⟨S32x4096x1, .f32⟩
  | .hbm, ⟨6, _⟩ => ⟨S32x4096, .f32⟩
  | .hbm, ⟨7, _⟩ => ⟨S32x1024, .i32⟩
  | .local _ .vmem, ⟨0, _⟩ => ⟨S16x4096, .f32⟩
  | .local _ .vmem, ⟨1, _⟩ => ⟨S16x4096, .f32⟩
  | .local _ .vmem, ⟨2, _⟩ => ⟨S16x4096, .f32⟩
  | .local _ .vmem, ⟨3, _⟩ => ⟨S16x4096, .f32⟩
  | .local _ .vmem, ⟨4, _⟩ => ⟨S16x4096, .f32⟩
  | .local _ .vmem, ⟨5, _⟩ => ⟨S16x4096, .f32⟩
  | .local _ .vmem, ⟨6, _⟩ => ⟨S16x1024, .i32⟩
  | .local _ .vmem, ⟨7, _⟩ => ⟨S16x1024, .i32⟩
  | _, _ => ⟨S32x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_call0_v5 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

@[reducible] def k0_t1_loop : Scf.Loop 32 :=
  let c1_i32 : BitVec 32 := 1#32
  let c127_i32 : BitVec 32 := 127#32
  let v13 : BitVec 32 := Scalar.addi c1_i32 c127_i32
  let c1_i32_5 : BitVec 32 := 1#32
  ⟨c1_i32, v13, c1_i32_5⟩
@[reducible] def k0_t2_loop : Scf.Loop 32 :=
  let c0_i32_10 : BitVec 32 := 0#32
  let c128_i32 : BitVec 32 := 128#32
  let v17 : BitVec 32 := Scalar.addi c0_i32_10 c128_i32
  let c1_i32_11 : BitVec 32 := 1#32
  ⟨c0_i32_10, v17, c1_i32_11⟩
@[reducible] def k0_t3_loop : Scf.Loop 32 :=
  let c0_i32_15 : BitVec 32 := 0#32
  let c128_i32_16 : BitVec 32 := 128#32
  let v21 : BitVec 32 := Scalar.addi c0_i32_15 c128_i32_16
  let c1_i32_17 : BitVec 32 := 1#32
  ⟨c0_i32_15, v21, c1_i32_17⟩
@[reducible] def k0_t4_loop : Scf.Loop 32 :=
  let c0_i32_21 : BitVec 32 := 0#32
  let c128_i32_22 : BitVec 32 := 128#32
  let v25 : BitVec 32 := Scalar.addi c0_i32_21 c128_i32_22
  let c1_i32_23 : BitVec 32 := 1#32
  ⟨c0_i32_21, v25, c1_i32_23⟩
@[reducible] def k0_t5_loop : Scf.Loop 32 :=
  let c0_i32_27 : BitVec 32 := 0#32
  let c128_i32_28 : BitVec 32 := 128#32
  let v29 : BitVec 32 := Scalar.addi c0_i32_27 c128_i32_28
  let c1_i32_29 : BitVec 32 := 1#32
  ⟨c0_i32_27, v29, c1_i32_29⟩
@[reducible] def k0_t6_loop : Scf.Loop 32 :=
  let c0_i32_33 : BitVec 32 := 0#32
  let c128_i32_34 : BitVec 32 := 128#32
  let v33 : BitVec 32 := Scalar.addi c0_i32_33 c128_i32_34
  let c1_i32_35 : BitVec 32 := 1#32
  ⟨c0_i32_33, v33, c1_i32_35⟩
@[reducible] def k0_t7_loop : Scf.Loop 32 :=
  let c0_i32_39 : BitVec 32 := 0#32
  let c128_i32_40 : BitVec 32 := 128#32
  let v37 : BitVec 32 := Scalar.addi c0_i32_39 c128_i32_40
  let c1_i32_41 : BitVec 32 := 1#32
  ⟨c0_i32_39, v37, c1_i32_41⟩
@[reducible] def k0_t8_loop : Scf.Loop 32 :=
  let c0_i32_45 : BitVec 32 := 0#32
  let c128_i32_46 : BitVec 32 := 128#32
  let v41 : BitVec 32 := Scalar.addi c0_i32_45 c128_i32_46
  let c1_i32_47 : BitVec 32 := 1#32
  ⟨c0_i32_45, v41, c1_i32_47⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x4096x3 : Shape := ⟨3, ![32, 4096, 3]⟩
abbrev S_ : Shape := ⟨0, ![]⟩
abbrev S32 : Shape := ⟨1, ![32]⟩
abbrev S32x4096 : Shape := ⟨2, ![32, 4096]⟩
abbrev S1023x32 : Shape := ⟨2, ![1023, 32]⟩
abbrev S32x1x1 : Shape := ⟨3, ![32, 1, 1]⟩
abbrev S1 : Shape := ⟨1, ![1]⟩
abbrev S1x1x1 : Shape := ⟨3, ![1, 1, 1]⟩
abbrev S32x1 : Shape := ⟨2, ![32, 1]⟩
abbrev S32x1x3 : Shape := ⟨3, ![32, 1, 3]⟩
abbrev S1x32 : Shape := ⟨2, ![1, 32]⟩
abbrev S1024x32 : Shape := ⟨2, ![1024, 32]⟩
abbrev S32x1024 : Shape := ⟨2, ![32, 1024]⟩

abbrev nBuf : Space → Nat
  | .hbm => 57
  | .vmem => 0
  | .smem => 0
  | _ => 0

abbrev bufTy : (tb : Table) → Fin (tcTables nBuf tb) → BufTy
  | .hbm, ⟨0, _⟩ => ⟨S32x4096x3, .f32⟩
  | .hbm, ⟨1, _⟩ => ⟨S_, .i32⟩
  | .hbm, ⟨2, _⟩ => ⟨S32, .i32⟩
  | .hbm, ⟨3, _⟩ => ⟨S_, .f32⟩
  | .hbm, ⟨4, _⟩ => ⟨S32x4096, .f32⟩
  | .hbm, ⟨5, _⟩ => ⟨S_, .i32⟩
  | .hbm, ⟨6, _⟩ => ⟨S1023x32, .i32⟩
  | .hbm, ⟨7, _⟩ => ⟨S_, .i32⟩
  | .hbm, ⟨8, _⟩ => ⟨S32x4096x3, .f32⟩
  | .hbm, ⟨9, _⟩ => ⟨S_, .i32⟩
  | .hbm, ⟨10, _⟩ => ⟨S32x4096, .f32⟩
  | .hbm, ⟨11, _⟩ => ⟨S32, .i32⟩
  | .hbm, ⟨12, _⟩ => ⟨S1023x32, .i32⟩
  | .hbm, ⟨13, _⟩ => ⟨S_, .i32⟩
  | .hbm, ⟨14, _⟩ => ⟨S_, .i1⟩
  | .hbm, ⟨15, _⟩ => ⟨S32x1x1, .i32⟩
  | .hbm, ⟨16, _⟩ => ⟨S_, .i32⟩
  | .hbm, ⟨17, _⟩ => ⟨S32x1x1, .i32⟩
  | .hbm, ⟨18, _⟩ => ⟨S32x1x1, .i1⟩
  | .hbm, ⟨19, _⟩ => ⟨S_, .i32⟩
  | .hbm, ⟨20, _⟩ => ⟨S32x1x1, .i32⟩
  | .hbm, ⟨21, _⟩ => ⟨S32x1x1, .i32⟩
  | .hbm, ⟨22, _⟩ => ⟨S32x1x1, .i32⟩
  | .hbm, ⟨23, _⟩ => ⟨S1, .i32⟩
  | .hbm, ⟨24, _⟩ => ⟨S_, .i32⟩
  | .hbm, ⟨25, _⟩ => ⟨S32x1x1, .i32⟩
  | .hbm, ⟨26, _⟩ => ⟨S32x1x1, .i1⟩
  | .hbm, ⟨27, _⟩ => ⟨S1x1x1, .i32⟩
  | .hbm, ⟨28, _⟩ => ⟨S32x1x1, .i32⟩
  | .hbm, ⟨29, _⟩ => ⟨S32x1x1, .i1⟩
  | .hbm, ⟨30, _⟩ => ⟨S32x1x1, .i1⟩
  | .hbm, ⟨31, _⟩ => ⟨S_, .i1⟩
  | .hbm, ⟨32, _⟩ => ⟨S32x1, .i1⟩
  | .hbm, ⟨33, _⟩ => ⟨S32x1x3, .f32⟩
  | .hbm, ⟨34, _⟩ => ⟨S32x1x3, .i1⟩
  | .hbm, ⟨35, _⟩ => ⟨S_, .f32⟩
  | .hbm, ⟨36, _⟩ => ⟨S32x1x3, .f32⟩
  | .hbm, ⟨37, _⟩ => ⟨S32x1x3, .f32⟩
  | .hbm, ⟨38, _⟩ => ⟨S32x4096x3, .f32⟩
  | .hbm, ⟨39, _⟩ => ⟨S32x4096x3, .f32⟩
  | .hbm, ⟨40, _⟩ => ⟨S32x4096x3, .f32⟩
  | .hbm, ⟨41, _⟩ => ⟨S_, .f32⟩
  | .hbm, ⟨42, _⟩ => ⟨S32x4096, .f32⟩
  | .hbm, ⟨43, _⟩ => ⟨S32x4096, .f32⟩
  | .hbm, ⟨44, _⟩ => ⟨S32x4096, .i32⟩
  | .hbm, ⟨45, _⟩ => ⟨S_, .f32⟩
  | .hbm, ⟨46, _⟩ => ⟨S_, .i32⟩
  | .hbm, ⟨47, _⟩ => ⟨S32, .f32⟩
  | .hbm, ⟨48, _⟩ => ⟨S32, .i32⟩
  | .hbm, ⟨49, _⟩ => ⟨S1x32, .i32⟩
  | .hbm, ⟨50, _⟩ => ⟨S_, .i32⟩
  | .hbm, ⟨51, _⟩ => ⟨S1023x32, .i32⟩
  | .hbm, ⟨52, _⟩ => ⟨S_, .i32⟩
  | .hbm, ⟨53, _⟩ => ⟨S_, .i32⟩
  | .hbm, ⟨54, _⟩ => ⟨S1x32, .i32⟩
  | .hbm, ⟨55, _⟩ => ⟨S1024x32, .i32⟩
  | .hbm, ⟨56, _⟩ => ⟨S32x1024, .i32⟩
  | _, _ => ⟨S32x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_while0c_c_6 : Ref sig .tc := ⟨.hbm, 13, rfl⟩
abbrev main_while0c_v7 : Ref sig .tc := ⟨.hbm, 14, rfl⟩
abbrev main_while0b_v7 : Ref sig .tc := ⟨.hbm, 15, rfl⟩
abbrev main_while0b_call0_c : Ref sig .tc := ⟨.hbm, 16, rfl⟩
abbrev main_while0b_call0_v0 : Ref sig .tc := ⟨.hbm, 17, rfl⟩
abbrev main_while0b_call0_v1 : Ref sig .tc := ⟨.hbm, 18, rfl⟩
abbrev main_while0b_call0_c_0 : Ref sig .tc := ⟨.hbm, 19, rfl⟩
abbrev main_while0b_call0_v2 : Ref sig .tc := ⟨.hbm, 20, rfl⟩
abbrev main_while0b_call0_v3 : Ref sig .tc := ⟨.hbm, 21, rfl⟩
abbrev main_while0b_call0_v4 : Ref sig .tc := ⟨.hbm, 22, rfl⟩
abbrev main_while0b_call0_c_1 : Ref sig .tc := ⟨.hbm, 23, rfl⟩
abbrev main_while0b_call0_c_2 : Ref sig .tc := ⟨.hbm, 24, rfl⟩
abbrev main_while0b_call0_v5 : Ref sig .tc := ⟨.hbm, 25, rfl⟩
abbrev main_while0b_call0_v6 : Ref sig .tc := ⟨.hbm, 26, rfl⟩
abbrev main_while0b_call0_v7 : Ref sig .tc := ⟨.hbm, 27, rfl⟩
abbrev main_while0b_call0_v8 : Ref sig .tc := ⟨.hbm, 28, rfl⟩
abbrev main_while0b_call0_v9 : Ref sig .tc := ⟨.hbm, 29, rfl⟩
abbrev main_while0b_call0_v10 : Ref sig .tc := ⟨.hbm, 30, rfl⟩
abbrev main_while0b_call0_c_3 : Ref sig .tc := ⟨.hbm, 31, rfl⟩
abbrev main_while0b_call0_v11 : Ref sig .tc := ⟨.hbm, 32, rfl⟩
abbrev main_while0b_call0_v12 : Ref sig .tc := ⟨.hbm, 33, rfl⟩
abbrev main_while0b_call0_v13 : Ref sig .tc := ⟨.hbm, 34, rfl⟩
abbrev main_while0b_call0_cst : Ref sig .tc := ⟨.hbm, 35, rfl⟩
abbrev main_while0b_call0_v14 : Ref sig .tc := ⟨.hbm, 36, rfl⟩
abbrev main_while0b_v8 : Ref sig .tc := ⟨.hbm, 37, rfl⟩
abbrev main_while0b_v9 : Ref sig .tc := ⟨.hbm, 38, rfl⟩
abbrev main_while0b_v10 : Ref sig .tc := ⟨.hbm, 39, rfl⟩
abbrev main_while0b_v11 : Ref sig .tc := ⟨.hbm, 40, rfl⟩
abbrev main_while0b_cst_6 : Ref sig .tc := ⟨.hbm, 41, rfl⟩
abbrev main_while0b_v12 : Ref sig .tc := ⟨.hbm, 42, rfl⟩
abbrev main_while0b_v13 : Ref sig .tc := ⟨.hbm, 43, rfl⟩
abbrev main_while0b_call1_v0 : Ref sig .tc := ⟨.hbm, 44, rfl⟩
abbrev main_while0b_call1_cst : Ref sig .tc := ⟨.hbm, 45, rfl⟩
abbrev main_while0b_call1_c : Ref sig .tc := ⟨.hbm, 46, rfl⟩
abbrev main_while0b_call1_v1_0 : Ref sig .tc := ⟨.hbm, 47, rfl⟩
abbrev main_while0b_v14 : Ref sig .tc := ⟨.hbm, 48, rfl⟩
abbrev main_while0b_call2_v0 : Ref sig .tc := ⟨.hbm, 49, rfl⟩
abbrev main_while0b_call2_c : Ref sig .tc := ⟨.hbm, 50, rfl⟩
abbrev main_while0b_v15 : Ref sig .tc := ⟨.hbm, 51, rfl⟩
abbrev main_while0b_c_7 : Ref sig .tc := ⟨.hbm, 52, rfl⟩
abbrev main_while0b_v16 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩

abbrev nD : Nat := 1
abbrev τ : Topo := Topo.v7x

variable {F : FTy → Type} [FloatOps F]

abbrev main_while0_count : Scf.Loop 32 := ⟨0#32, 1023#32, 1#32⟩
-- ==== Proof.KStep.lean ====
/- One trip of the kernel's loops as one function of the carried values, and each of the eight loops as a
   fold of it. -/
module

public import proofs.«01_k».proof.Proof.Gen.KernelIdeal.Value

@[expose] public section

noncomputable section

namespace Cert.KFold

open Cert.KernelIdeal Cert.KernelIdeal.Gen
open Idealize.ShloMosaic

variable {F : FTy → Type} [FloatOps F]

/-- What a loop carries: the distances, the three coordinates of the point chosen last, the chosen indices. -/
abbrev Carried (F : FTy → Type) [FloatOps F] : Type :=
  FVec F S16x4096 .f32 × FVec F S16x1 .f32 × FVec F S16x1 .f32 × FVec F S16x1 .f32 × IVec S16x128 32

/-- The index of each column, along every row. -/
def cols : IVec S16x4096 32 := iota .tc S16x4096 32 [1] iota_S16x4096_d1_w32

/-- The index of each lane, along every row. -/
def lanes : IVec S16x128 32 := iota .tc S16x128 32 [1] iota_S16x128_d1_w32

/-- One trip at induction variable `i`. -/
def kstep (x y z : FVec F S16x4096 .f32) (i : BitVec 32) (s : Carried F) : Carried F :=
  (k0_pay1 x y z s.1 s.2.1 s.2.2.1 s.2.2.2.1,
    k0_pay4 x y z cols s.1 s.2.1 s.2.2.1 s.2.2.2.1,
    k0_pay5 x y z cols s.1 s.2.1 s.2.2.1 s.2.2.2.1,
    k0_pay6 x y z cols s.1 s.2.1 s.2.2.1 s.2.2.2.1,
    select (cmpi .eq lanes (broadcast S16x128 i))
      (broadcastTo S16x128
        (shapeCast S16x1 (k0_pay2 x y z cols s.1 s.2.1 s.2.2.1 s.2.2.2.1) shapeCasts_S16x1_S16x1)
        broadcasts_S16x1_S16x128)
      s.2.2.2.2)

/-- The trips of a loop from `lb` by ones. -/
def kfold (x y z : FVec F S16x4096 .f32) (lb : BitVec 32) (n : ℕ) (s : Carried F) : Carried F :=
  Scf.fold (fun (k : Fin n) acc => kstep x y z (Scf.iv lb 1#32 k) acc) s

/-- What the next loop starts from: the same carried values with the chosen indices cleared. -/
def cleared (s : Carried F) : Carried F := (s.1, s.2.1, s.2.2.1, s.2.2.2.1, broadcast S16x128 0#32)

/-- What the first loop starts from: no distance known yet, the first point chosen. -/
def start (x y z : FVec F S16x4096 .f32) : Carried F :=
  (broadcast S16x4096 (Scalar.ofBits .f32 0x7F800000#32),
    extractStridedSlice S16x1 ![0, 0] x slices_S16x4096_o0_0_S16x1,
    extractStridedSlice S16x1 ![0, 0] y slices_S16x4096_o0_0_S16x1,
    extractStridedSlice S16x1 ![0, 0] z slices_S16x4096_o0_0_S16x1,
    broadcast S16x128 0#32)

/-- What the loop of chunk `c` ends with. -/
def chunk (x y z : FVec F S16x4096 .f32) : ℕ → Carried F
  | 0 => kfold x y z 1#32 127 (start x y z)
  | c + 1 => kfold x y z 0#32 128 (cleared (chunk x y z c))

section Loops
variable (c : Dev nD) (arg1 : Memref sig .tc .vmem S16x4096 .f32) (harg1 : arg1.IsWhole)
  (arg2 : Memref sig .tc .vmem S16x4096 .f32) (harg2 : arg2.IsWhole)
  (arg3 : Memref sig .tc .vmem S16x4096 .f32) (harg3 : arg3.IsWhole)
  (x0 x1 x2 : Vec F S16x4096 .f32)

/-- The first loop. -/
theorem loop0 : kernelRun0_A.sl.r c arg1 harg1 arg2 harg2 arg3 harg3 x0 x1 x2
    = chunk (kernelRun0_A.sl.r_3 c arg1 harg1 x0) (kernelRun0_A.sl.r_4 c arg2 harg2 x1)
        (kernelRun0_A.sl.r_5 c arg3 harg3 x2) 0 := rfl

/-- The second loop. -/
theorem loop1 : kernelRun0_A.sl.r_1 c arg1 harg1 arg2 harg2 arg3 harg3 x0 x1 x2
    = chunk (kernelRun0_A.sl.r_3 c arg1 harg1 x0) (kernelRun0_A.sl.r_4 c arg2 harg2 x1)
        (kernelRun0_A.sl.r_5 c arg3 harg3 x2) 1 := by
  rw [chunk, ← loop0]; rfl

/-- The third loop. -/
theorem loop2 : kernelRun0_A.sl.r_2 c arg1 harg1 arg2 harg2 arg3 harg3 x0 x1 x2
    = chunk (kernelRun0_A.sl.r_3 c arg1 harg1 x0) (kernelRun0_A.sl.r_4 c arg2 harg2 x1)
        (kernelRun0_A.sl.r_5 c arg3 harg3 x2) 2 := by
  rw [chunk, ← loop1]; rfl

/-- The fourth loop. -/
theorem loop3 : kernelRun0_A.sl.r_10 c arg1 harg1 arg2 harg2 arg3 harg3 x0 x1 x2
    = chunk (kernelRun0_A.sl.r_3 c arg1 harg1 x0) (kernelRun0_A.sl.r_4 c arg2 harg2 x1)
        (kernelRun0_A.sl.r_5 c arg3 harg3 x2) 3 := by
  rw [chunk, ← loop2]; rfl

/-- The fifth loop. -/
theorem loop4 : kernelRun0_A.sl.r_11 c arg1 harg1 arg2 harg2 arg3 harg3 x0 x1 x2
    = chunk (kernelRun0_A.sl.r_3 c arg1 harg1 x0) (kernelRun0_A.sl.r_4 c arg2 harg2 x1)
        (kernelRun0_A.sl.r_5 c arg3 harg3 x2) 4 := by
  rw [chunk, ← loop3]; rfl

/-- The sixth loop. -/
theorem loop5 : kernelRun0_A.sl.r_12 c arg1 harg1 arg2 harg2 arg3 harg3 x0 x1 x2
    = chunk (kernelRun0_A.sl.r_3 c arg1 harg1 x0) (kernelRun0_A.sl.r_4 c arg2 harg2 x1)
        (kernelRun0_A.sl.r_5 c arg3 harg3 x2) 5 := by
  rw [chunk, ← loop4]; rfl

/-- The seventh loop. -/
theorem loop6 : kernelRun0_A.sl.r_13 c arg1 harg1 arg2 harg2 arg3 harg3 x0 x1 x2
    = chunk (kernelRun0_A.sl.r_3 c arg1 harg1 x0) (kernelRun0_A.sl.r_4 c arg2 harg2 x1)
        (kernelRun0_A.sl.r_5 c arg3 harg3 x2) 6 := by
  rw [chunk, ← loop5]; rfl

/-- The eighth loop. -/
theorem loop7 : kernelRun0_A.sl.r_14 c arg1 harg1 arg2 harg2 arg3 harg3 x0 x1 x2
    = chunk (kernelRun0_A.sl.r_3 c arg1 harg1 x0) (kernelRun0_A.sl.r_4 c arg2 harg2 x1)
        (kernelRun0_A.sl.r_5 c arg3 harg3 x2) 7 := by
  rw [chunk, ← loop6]; rfl

end Loops

end Cert.KFold

end
-- ==== Proof.Spec.lean ====
/- Farthest point sampling of one row of points, as mathematics: the distances kept so far, the point chosen
   last, and the order in which equal distances are told apart. Also the three folds that pick the point:
   a maximum, a minimum of indices, and a fold of (value, index) pairs. -/
module

public import Idealize.ShloMosaic.PureOps.Reduce
public import Idealize.ShloMosaic.PureOps.Ideal.Laws

@[expose] public section

noncomputable section

namespace Cert.Fps

open Idealize.ShloMosaic

/-! ## The first index at which a row is largest -/

/-- `i` is the first index at which `d` is largest. -/
def IsFirstMax {n : ℕ} (d : Fin n → EReal) (i : Fin n) : Prop :=
  (∀ j, d j ≤ d i) ∧ ∀ j, j < i → d j < d i

/-- A row with an entry has a first largest one. -/
theorem exists_isFirstMax {n : ℕ} [NeZero n] (d : Fin n → EReal) : ∃ i, IsFirstMax d i := by
  obtain ⟨m, hm⟩ := Finite.exists_max d
  classical
  obtain ⟨i, hi, hmin⟩ := (Finset.univ.filter fun i => d i = d m).exists_min_image id ⟨m, by simp⟩
  have hi' : d i = d m := (Finset.mem_filter.1 hi).2
  refine ⟨i, fun j => hi' ▸ hm j, fun j hj => lt_of_le_of_ne (hi' ▸ hm j) fun e => ?_⟩
  have := hmin j (Finset.mem_filter.2 ⟨Finset.mem_univ _, e.trans hi'⟩)
  exact absurd hj (not_lt.2 this)

/-- There is only one such index. -/
theorem IsFirstMax.unique {n : ℕ} {d : Fin n → EReal} {i j : Fin n} (hi : IsFirstMax d i) (hj : IsFirstMax d j) :
    i = j := by
  rcases lt_trichotomy i j with h | h | h
  · exact absurd (hj.2 i h) (not_lt.2 (hi.1 j))
  · exact h
  · exact absurd (hi.2 j h) (not_lt.2 (hj.1 i))

/-- The first index at which `d` is largest. -/
def firstMax {n : ℕ} [NeZero n] (d : Fin n → EReal) : Fin n := (exists_isFirstMax d).choose

/-- It is one. -/
theorem firstMax_spec {n : ℕ} [NeZero n] (d : Fin n → EReal) : IsFirstMax d (firstMax d) :=
  (exists_isFirstMax d).choose_spec

/-! ## The sampling of a row -/

/-- The squared distance of two points of a row. -/
def sqDist (p : Fin 4096 → Fin 3 → EReal) (l j : Fin 4096) : EReal :=
  ∑ c, (p j c - p l c) * (p j c - p l c)

/-- After `k` steps: how far each point is from the points chosen, and the point chosen last. -/
def state (p : Fin 4096 → Fin 3 → EReal) : ℕ → (Fin 4096 → EReal) × Fin 4096
  | 0 => (fun _ => ⊤, 0)
  | k + 1 =>
    let d := fun j => min ((state p k).1 j) (sqDist p (state p k).2 j)
    (d, firstMax d)

/-- The distances before any step. -/
theorem state_zero (p : Fin 4096 → Fin 3 → EReal) : state p 0 = (fun _ => ⊤, 0) := rfl

/-- The distances after one more step. -/
theorem state_succ_fst (p : Fin 4096 → Fin 3 → EReal) (k : ℕ) :
    (state p (k + 1)).1 = fun j => min ((state p k).1 j) (sqDist p (state p k).2 j) := rfl

/-- The point chosen in one more step. -/
theorem state_succ_snd (p : Fin 4096 → Fin 3 → EReal) (k : ℕ) :
    (state p (k + 1)).2 = firstMax (state p (k + 1)).1 := rfl

/-! ## An index as a 32-bit word -/

/-- An index of a row as a word reads back, signed, as itself. -/
theorem toInt_word {a : ℕ} (h : a < 2147483648) : (BitVec.ofNat 32 a).toInt = a := by
  have h' : (BitVec.ofNat 32 a).toNat = a := by rw [BitVec.toNat_ofNat]; omega
  rw [BitVec.toInt_eq_toNat_of_lt (by omega), h']

/-- Different small numbers are different words. -/
theorem word_inj {a b : ℕ} (ha : a < 2147483648) (hb : b < 2147483648) :
    BitVec.ofNat 32 a = BitVec.ofNat 32 b ↔ a = b :=
  ⟨fun h => by have := congrArg BitVec.toInt h; rw [toInt_word ha, toInt_word hb] at this; exact_mod_cast this,
    fun h => h ▸ rfl⟩

/-! ## The folds -/

/-- The largest entry of a row, folded from the least value, is the entry at the first largest index. -/
theorem fold_max_eq {n : ℕ} [NeZero n] (d : Fin n → EReal) :
    (Finset.univ : Finset (Fin n)).fold max ⊥ d = d (firstMax d) :=
  le_antisymm (Finset.fold_max_le _ |>.2 ⟨bot_le, fun j _ => (firstMax_spec d).1 j⟩)
    (Finset.le_fold_max _ |>.2 (Or.inr ⟨_, Finset.mem_univ _, le_rfl⟩))

/-- The signed minimum of words reads as the minimum of their values. -/
theorem toInt_minsi (x y : BitVec 32) : (IntOp.minsi x y).toInt = min x.toInt y.toInt := by
  unfold IntOp.minsi
  rw [BitVec.slt]
  by_cases h : x.toInt < y.toInt
  · simp [h, le_of_lt h]
  · simp [h, not_lt.1 h]

/-- A signed minimum of words, folded from a start above all of them, is the word that is below all of them. -/
theorem fold_minsi_eq {ι : Type} [Fintype ι] (f : ι → BitVec 32) (b v : BitVec 32) (hb : v.toInt ≤ b.toInt)
    (hle : ∀ i, v.toInt ≤ (f i).toInt) (i : ι) (hi : f i = v) :
    (Finset.univ : Finset ι).fold IntOp.minsi b f = v := by
  apply BitVec.eq_of_toInt_eq
  have h := Finset.fold_hom (op := IntOp.minsi) (op' := (min : ℤ → ℤ → ℤ)) (s := (Finset.univ : Finset ι)) (b := b)
    (f := f) (m := BitVec.toInt) toInt_minsi
  rw [← h]
  refine le_antisymm (Finset.fold_min_le _ |>.2 (Or.inr ⟨i, Finset.mem_univ _, ?_⟩))
    (Finset.le_fold_min _ |>.2 ⟨hb, fun j _ => hle j⟩)
  rw [hi]

/-- The least index at which a row reaches its largest entry, found as the signed minimum of the words that are
    the index where the row reaches it and the row's length elsewhere. -/
theorem fold_minsi_firstMax (d : Fin 4096 → EReal) (f : Fin 4096 → BitVec 32)
    (hf : ∀ j, f j = if d j = d (firstMax d) then BitVec.ofNat 32 j.val else 4096#32) :
    (Finset.univ : Finset (Fin 4096)).fold IntOp.minsi 2147483647#32 f = BitVec.ofNat 32 (firstMax d).val := by
  have hl := (firstMax d).isLt
  have hv : (BitVec.ofNat 32 (firstMax d).val).toInt = (firstMax d).val := toInt_word (by omega)
  refine fold_minsi_eq f _ _ ?_ (fun j => ?_) (firstMax d) (by rw [hf, if_pos rfl])
  · rw [hv]; have : (2147483647#32 : BitVec 32).toInt = 2147483647 := by decide
    omega
  · rw [hf, hv]
    split
    · rename_i h
      rw [toInt_word (by have := j.isLt; omega)]
      by_contra hlt
      have hj : j < firstMax d := by rw [Fin.lt_def]; omega
      exact absurd h (ne_of_lt ((firstMax_spec d).2 j hj))
    · have : (4096#32 : BitVec 32).toInt = 4096 := by decide
      omega

/-- A sum of which only the term at `l` is kept is that term. -/
theorem sum_pick {n : ℕ} (x : Fin n → EReal) (l : Fin n) : (∑ k, if k = l then x k else 0) = x l := by
  rw [Finset.sum_ite_eq' Finset.univ l x, if_pos (Finset.mem_univ _)]

/-! ## A fold that keeps the better of two -/

/-- A fold of an operation that returns the better of its two arguments returns its start or one of the list, and
    that is at least as good as all of them. -/
theorem foldl_best {α : Type} (le : α → α → Prop) (hrefl : ∀ a, le a a) (htrans : ∀ a b c, le a b → le b c → le a c)
    (g : α → α → α) (hg : ∀ a b, (g a b = a ∨ g a b = b) ∧ le a (g a b) ∧ le b (g a b)) (l : List α) (a : α) :
    (l.foldl g a = a ∨ l.foldl g a ∈ l) ∧ le a (l.foldl g a) ∧ ∀ e ∈ l, le e (l.foldl g a) := by
  induction l generalizing a with
  | nil => exact ⟨Or.inl rfl, hrefl a, fun e he => absurd he List.not_mem_nil⟩
  | cons b l ih =>
    obtain ⟨h1, h2, h3⟩ := ih (g a b)
    obtain ⟨g1, g2, g3⟩ := hg a b
    rw [List.foldl_cons]
    refine ⟨?_, htrans _ _ _ g2 h2, fun e he => ?_⟩
    · rcases h1 with h | h
      · rw [h]
        rcases g1 with g | g
        · exact Or.inl g
        · exact Or.inr (by rw [g]; exact List.mem_cons_self)
      · exact Or.inr (List.mem_cons_of_mem _ h)
    · rcases List.mem_cons.1 he with rfl | he
      · exact htrans _ _ _ g3 h2
      · exact h3 e he

/-- The pair `b` is at least as good as `a`: its value is larger, or the same with an index no larger. -/
def PairLe (a b : EReal × BitVec 32) : Prop := a.1 < b.1 ∨ (a.1 = b.1 ∧ b.2.toInt ≤ a.2.toInt)

/-- Every pair is as good as itself. -/
theorem PairLe.refl (a : EReal × BitVec 32) : PairLe a a := Or.inr ⟨rfl, le_rfl⟩

/-- The order of pairs is transitive. -/
theorem PairLe.trans (a b c : EReal × BitVec 32) (h : PairLe a b) (h' : PairLe b c) : PairLe a c := by
  rcases h with h | ⟨h, i⟩ <;> rcases h' with h' | ⟨h', i'⟩
  · exact Or.inl (h.trans h')
  · exact Or.inl (h' ▸ h)
  · exact Or.inl (h ▸ h')
  · exact Or.inr ⟨h.trans h', i'.trans i⟩

/-- A fold of such an operation over the (value, index) pairs of a row, from the least value at index zero, ends
    at the first index at which the row is largest. -/
theorem foldl_pairs_firstMax (g : EReal × BitVec 32 → EReal × BitVec 32 → EReal × BitVec 32)
    (hg : ∀ a b, (g a b = a ∨ g a b = b) ∧ PairLe a (g a b) ∧ PairLe b (g a b)) (d : Fin 4096 → EReal)
    (l : List (EReal × BitVec 32)) (hl : ∀ e, e ∈ l ↔ ∃ j : Fin 4096, e = (d j, BitVec.ofNat 32 j.val)) :
    (l.foldl g (⊥, 0#32)).2 = BitVec.ofNat 32 (firstMax d).val := by
  obtain ⟨h1, -, h3⟩ := foldl_best PairLe PairLe.refl PairLe.trans g hg l (⊥, 0#32)
  have key : ∃ i : Fin 4096, l.foldl g (⊥, 0#32) = (d i, BitVec.ofNat 32 i.val) := by
    rcases h1 with h | h
    · refine ⟨0, ?_⟩
      have h0 := h3 _ ((hl _).2 ⟨0, rfl⟩)
      rw [h] at h0 ⊢
      rcases h0 with h0 | ⟨h0, -⟩
      · exact absurd h0 not_lt_bot
      · exact Prod.ext h0.symm rfl
    · exact (hl _).1 h
  obtain ⟨i, hi⟩ := key
  rw [hi] at h3 ⊢
  have hmax : IsFirstMax d i := by
    refine ⟨fun j => ?_, fun j hj => ?_⟩
    · rcases h3 _ ((hl _).2 ⟨j, rfl⟩) with h | ⟨h, -⟩
      · exact le_of_lt h
      · exact le_of_eq h
    · rcases h3 _ ((hl _).2 ⟨j, rfl⟩) with h | ⟨-, h⟩
      · exact h
      · have hi := i.isLt
        have hj' := j.isLt
        rw [toInt_word (by omega), toInt_word (by omega)] at h
        rw [Fin.lt_def] at hj
        omega
  rw [hmax.unique (firstMax_spec d)]

end Cert.Fps

end
-- ==== Proof.KRow.lean ====
/- One trip of the kernel's loops read row by row: it is one step of the sampling of each row. -/
module

public import proofs.«01_k».proof.Proof.KStep
public import proofs.«01_k».proof.Proof.Spec
public import Idealize.ShloMosaic.Lib.ValueIdx
public import Idealize.ShloMosaic.Lib.Pipeline.Value

@[expose] public section

noncomputable section

namespace Cert.KFold

open Cert.KernelIdeal Cert.KernelIdeal.Gen Cert.Fps
open Idealize.ShloMosaic Idealize.ShloMosaic.ValueIdx

/-! ## Reading the operations at an index -/

/-- Column `k` of row `r` is where the reduction of row `r` reads its `k`-th entry. -/
theorem lift_row (r : Fin 16) (k : Fin 4096) :
    (reduces_S16x4096_S16).lift (ix1 r) k = (ix2 r k : S16x4096.Idx) := by
  funext a
  apply Fin.ext
  match a with
  | ⟨0, _⟩ => rfl
  | ⟨1, _⟩ => rfl

/-- A column of one entry per row, spread over the columns. -/
theorem spread_apply {α : Type} (v : S16x1.Idx → α) (r : Fin 16) (j : Fin 4096) :
    broadcastTo S16x4096 v broadcasts_S16x1_S16x4096 (ix2 r j) = v (ix2 r 0) := by
  refine broadcastTo_apply v _ _ _ fun a => ?_
  match a with
  | ⟨0, _⟩ => rfl
  | ⟨1, _⟩ => rfl

/-- The same over the lanes. -/
theorem spreadLanes_apply {α : Type} (v : S16x1.Idx → α) (r : Fin 16) (l : Fin 128) :
    broadcastTo S16x128 v broadcasts_S16x1_S16x128 (ix2 r l) = v (ix2 r 0) := by
  refine broadcastTo_apply v _ _ _ fun a => ?_
  match a with
  | ⟨0, _⟩ => rfl
  | ⟨1, _⟩ => rfl

/-- One value per row, laid out as a column. -/
theorem column_apply {α : Type} (v : S16.Idx → α) (r : Fin 16) :
    shapeCast S16x1 v shapeCasts_S16_S16x1 (ix2 r 0) = v (ix1 r) := by
  refine shapeCast_apply v _ _ _ ?_
  rw [Shape.rowMajor_val_one, Shape.rowMajor_val_two]
  simp

/-- A column's index. -/
theorem cols_apply (r : Fin 16) (j : Fin 4096) : cols (ix2 r j) = BitVec.ofNat 32 j.val := by
  simp [cols, iota]

/-- A lane's index. -/
theorem lanes_apply (r : Fin 16) (l : Fin 128) : lanes (ix2 r l) = BitVec.ofNat 32 l.val := by
  simp [lanes, iota]

/-- The largest value of each row. -/
def rowMax (d : FVec Ideal S16x4096 .f32) : FVec Ideal S16 .f32 :=
  multiReduction .maximumf [1] S16 d 0xFF800000#32 reduces_S16x4096_S16 (.inl rfl) rfl

/-- The least word of each row. -/
def rowMin (w : IVec S16x4096 32) : IVec S16 32 :=
  multiReductionI .minsi [1] S16 w 2147483647#32 reduces_S16x4096_S16 rfl

/-- The sum of each row. -/
def rowSum (d : FVec Ideal S16x4096 .f32) : FVec Ideal S16 .f32 :=
  multiReduction .add [1] S16 d 0x00000000#32 reduces_S16x4096_S16 (.inl rfl) rfl

/-- The largest value of a row is its entry at the first index where it is largest. -/
theorem rowMax_apply (d : FVec Ideal S16x4096 .f32) (r : Fin 16) :
    rowMax d (ix1 r) = (fun j => d (ix2 r j) : Fin 4096 → EReal) (firstMax fun j => d (ix2 r j)) := by
  refine (Ideal.multiReduction_maximumf_single d _ _ _ _ _).trans ?_
  refine Eq.trans ?_ (fold_max_eq (fun j : Fin 4096 => (d (ix2 r j) : EReal)))
  have e : (FloatOps.ofBits .f32 0xFF800000#32 : Ideal .f32) = (⊥ : EReal) := by
    show Ideal.ofBits .f32 0xFF800000#32 = _
    simp [Ideal.ofBits, Ideal.ieee]
  rw [e]
  refine congrArg (fun f : Fin 4096 → EReal => (Finset.univ : Finset (Fin 4096)).fold max ⊥ f) ?_
  funext k
  exact congrArg d (lift_row r k)

/-- The least word of a row is the fold of the signed minimum over it. -/
theorem rowMin_apply (w : IVec S16x4096 32) (r : Fin 16) :
    rowMin w (ix1 r)
      = (Finset.univ : Finset (Fin 4096)).fold IntOp.minsi 2147483647#32 (fun j => w (ix2 r j)) := by
  refine (multiReductionI_eq_fold .minsi w _ _ _ _).trans ?_
  refine ((reduces_S16x4096_S16).fold_filter_drop_single IntOp.minsi _ w (ix1 r)).trans ?_
  refine congrArg (fun f : Fin 4096 → BitVec 32 => (Finset.univ : Finset (Fin 4096)).fold IntOp.minsi 2147483647#32 f) ?_
  funext k
  exact congrArg w (lift_row r k)

/-- The sum of a row. -/
theorem rowSum_apply (d : FVec Ideal S16x4096 .f32) (r : Fin 16) :
    rowSum d (ix1 r) = ∑ j : Fin 4096, (d (ix2 r j) : EReal) :=
  (Ideal.multiReduction_add_single d _ _ _ _ _).trans
    (Finset.sum_congr rfl fun k _ => congrArg d (lift_row r k))

/-- The index the kernel picks, in these words. -/
theorem pick_eq (x y z : FVec Ideal S16x4096 .f32) (s : Carried Ideal) :
    k0_pay2 x y z cols s.1 s.2.1 s.2.2.1 s.2.2.2.1
      = shapeCast S16x1
          (rowMin (select
            (cmpf .oeq (k0_pay1 x y z s.1 s.2.1 s.2.2.1 s.2.2.2.1)
              (broadcastTo S16x4096
                (shapeCast S16x1 (rowMax (k0_pay1 x y z s.1 s.2.1 s.2.2.1 s.2.2.2.1)) shapeCasts_S16_S16x1)
                broadcasts_S16x1_S16x4096))
            cols (broadcast S16x4096 4096#32))) shapeCasts_S16_S16x1 := rfl

/-- The sum of the marked entries of a row, laid out as a column. -/
def marked (x y z : FVec Ideal S16x4096 .f32) (s : Carried Ideal) (w : FVec Ideal S16x4096 .f32) :
    FVec Ideal S16x1 .f32 :=
  shapeCast S16x1
    (rowSum (select (k0_pay3 x y z cols s.1 s.2.1 s.2.2.1 s.2.2.2.1) w
      (broadcast S16x4096 (Scalar.ofBits .f32 0x00000000#32 : Ideal .f32)))) shapeCasts_S16_S16x1

/-! ## One trip -/

/-- The carried values are the state of every row after `t` steps, for rows of points `P`. -/
structure Tracks (P : Fin 16 → Fin 4096 → Fin 3 → EReal) (t : ℕ) (s : Carried Ideal) : Prop where
  dists : ∀ r j, s.1 (ix2 r j) = (state (P r) t).1 j
  cx : ∀ r, s.2.1 (ix2 r 0) = P r (state (P r) t).2 0
  cy : ∀ r, s.2.2.1 (ix2 r 0) = P r (state (P r) t).2 1
  cz : ∀ r, s.2.2.2.1 (ix2 r 0) = P r (state (P r) t).2 2

section Trip
variable {P : Fin 16 → Fin 4096 → Fin 3 → EReal} {x y z : FVec Ideal S16x4096 .f32}
  (hx : ∀ r j, x (ix2 r j) = P r j 0) (hy : ∀ r j, y (ix2 r j) = P r j 1) (hz : ∀ r j, z (ix2 r j) = P r j 2)
  {t : ℕ} {s : Carried Ideal} (hs : Tracks P t s)
include hx hy hz hs

/-- The new distances are the next state's. -/
theorem newDists_apply (r : Fin 16) (j : Fin 4096) :
    k0_pay1 x y z s.1 s.2.1 s.2.2.1 s.2.2.2.1 (ix2 r j) = (state (P r) (t + 1)).1 j := by
  unfold k0_pay1
  simp only [minimumf_apply, addf_apply, mulf_apply, subf_apply, spread_apply, hx, hy, hz, hs.dists, hs.cx, hs.cy,
    hs.cz]
  rw [state_succ_fst]
  simp only [sqDist, Fin.sum_univ_three]
  congr 1
  exact add_right_comm _ _ _

/-- The chosen index is the next state's. -/
theorem newIdx_apply (r : Fin 16) :
    k0_pay2 x y z cols s.1 s.2.1 s.2.2.1 s.2.2.2.1 (ix2 r 0) = BitVec.ofNat 32 (state (P r) (t + 1)).2.val := by
  have hd : (fun j => k0_pay1 x y z s.1 s.2.1 s.2.2.1 s.2.2.2.1 (ix2 r j) : Fin 4096 → EReal) = (state (P r) (t + 1)).1 :=
    funext fun j => newDists_apply hx hy hz hs r j
  rw [pick_eq, column_apply, rowMin_apply, state_succ_snd]
  refine fold_minsi_firstMax _ _ fun j => ?_
  rw [select_apply, cmpf_apply, spread_apply, column_apply, rowMax_apply, hd, cols_apply, broadcast_apply,
    newDists_apply hx hy hz hs]
  show Scalar.select (BitVec.ofBool (decide _)) _ _ = _
  by_cases h : (state (P r) (t + 1)).1 j = (state (P r) (t + 1)).1 (firstMax (state (P r) (t + 1)).1)
  · rw [if_pos h, decide_eq_true h]; rfl
  · rw [if_neg h, decide_eq_false h]; rfl

/-- A column is marked when it is the chosen one. -/
theorem mark_apply (r : Fin 16) (j : Fin 4096) :
    k0_pay3 x y z cols s.1 s.2.1 s.2.2.1 s.2.2.2.1 (ix2 r j)
      = BitVec.ofBool (decide (j = (state (P r) (t + 1)).2)) := by
  unfold k0_pay3
  show IntOp.cmpi .eq _ _ = _
  rw [spread_apply, cols_apply, newIdx_apply hx hy hz hs]
  show BitVec.ofBool (BitVec.ofNat 32 j.val == BitVec.ofNat 32 (state (P r) (t + 1)).2.val) = _
  congr 1
  rw [Bool.eq_iff_iff, beq_iff_eq, decide_eq_true_iff,
    word_inj (by have := j.isLt; omega) (by have := (state (P r) (t + 1)).2.isLt; omega), Fin.ext_iff]

/-- A marked sum of a coordinate is the chosen point's coordinate. -/
theorem marked_apply (w : FVec Ideal S16x4096 .f32) (r : Fin 16) :
    marked x y z s w (ix2 r 0) = w (ix2 r (state (P r) (t + 1)).2) := by
  rw [marked, column_apply, rowSum_apply]
  refine Eq.trans (Finset.sum_congr rfl fun j _ => ?_) (sum_pick (fun j => (w (ix2 r j) : EReal)) (state (P r) (t + 1)).2)
  rw [select_apply, mark_apply hx hy hz hs]
  by_cases h : j = (state (P r) (t + 1)).2
  · rw [if_pos h, decide_eq_true h]; rfl
  · rw [if_neg h, decide_eq_false h]; exact Ideal.ofBits_zero_f32

/-- A trip takes the state of every row to its next state. -/
theorem kstep_tracks (i : BitVec 32) : Tracks P (t + 1) (kstep x y z i s) where
  dists r j := newDists_apply hx hy hz hs r j
  cx r := (marked_apply hx hy hz hs x r).trans (hx _ _)
  cy r := (marked_apply hx hy hz hs y r).trans (hy _ _)
  cz r := (marked_apply hx hy hz hs z r).trans (hz _ _)

/-- A trip writes the chosen index into the lane of its number and keeps the other lanes. -/
theorem kstep_lane (i : BitVec 32) (r : Fin 16) (l : Fin 128) :
    (kstep x y z i s).2.2.2.2 (ix2 r l)
      = if BitVec.ofNat 32 l.val = i then BitVec.ofNat 32 (state (P r) (t + 1)).2.val else s.2.2.2.2 (ix2 r l) := by
  unfold kstep
  dsimp only
  rw [select_apply, spreadLanes_apply, shapeCast_self, newIdx_apply hx hy hz hs]
  show Scalar.select (BitVec.ofBool (lanes (ix2 r l) == i)) _ _ = _
  rw [lanes_apply]
  by_cases h : BitVec.ofNat 32 l.val = i
  · rw [if_pos h, beq_iff_eq.2 h]; rfl
  · rw [if_neg h, beq_eq_false_iff_ne.2 h]; rfl

end Trip

end Cert.KFold

end
-- ==== Proof.KChunk.lean ====
/- The kernel's eight loops in a row: what each leaves in the lanes of its chunk. -/
module

public import proofs.«01_k».proof.Proof.KRow

@[expose] public section

noncomputable section

namespace Cert.KFold

open Cert.KernelIdeal Cert.KernelIdeal.Gen Cert.Fps
open Idealize.ShloMosaic Idealize.ShloMosaic.ValueIdx

/-- No trip leaves the carried values as they are. -/
theorem kfold_zero {F : FTy → Type} [FloatOps F] (x y z : FVec F S16x4096 .f32) (lb : BitVec 32) (s : Carried F) :
    kfold x y z lb 0 s = s := by
  simp [kfold, Scf.fold_eq]

/-- One more trip is the last step. -/
theorem kfold_succ {F : FTy → Type} [FloatOps F] (x y z : FVec F S16x4096 .f32) (lb : BitVec 32) (n : ℕ)
    (s : Carried F) : kfold x y z lb (n + 1) s = kstep x y z (Scf.iv lb 1#32 n) (kfold x y z lb n s) := by
  simp only [kfold, Scf.fold_eq, List.finRange_succ_last, List.foldl_append, List.foldl_map, List.foldl_cons,
    List.foldl_nil, Fin.val_castSucc, Fin.val_last]

section Rows
variable {P : Fin 16 → Fin 4096 → Fin 3 → EReal} {x y z : FVec Ideal S16x4096 .f32}
  (hx : ∀ r j, x (ix2 r j) = P r j 0) (hy : ∀ r j, y (ix2 r j) = P r j 1) (hz : ∀ r j, z (ix2 r j) = P r j 2)
include hx hy hz

/-- A loop of `n` trips is `n` steps of every row. -/
theorem kfold_tracks {t : ℕ} {s : Carried Ideal} (hs : Tracks P t s) (lb : BitVec 32) (n : ℕ) :
    Tracks P (t + n) (kfold x y z lb n s) := by
  induction n with
  | zero => rw [kfold_zero]; exact hs
  | succ n ih => rw [kfold_succ]; exact kstep_tracks hx hy hz ih _

/-- After `n` trips from `b` the lanes from `b` up to `b + n` hold the indices chosen in those trips, and the other
    lanes what they held. -/
theorem kfold_lane {t : ℕ} {s : Carried Ideal} (hs : Tracks P t s) (b n : ℕ) (hn : b + n ≤ 128) (r : Fin 16)
    (l : Fin 128) :
    (kfold x y z (BitVec.ofNat 32 b) n s).2.2.2.2 (ix2 r l)
      = if b ≤ l.val ∧ l.val < b + n then BitVec.ofNat 32 (state (P r) (t + 1 + (l.val - b))).2.val
        else s.2.2.2.2 (ix2 r l) := by
  induction n with
  | zero => rw [kfold_zero, if_neg (by omega)]
  | succ n ih =>
    have hiv : Scf.iv (BitVec.ofNat 32 b) 1#32 n = BitVec.ofNat 32 (b + n) := by
      simp [Scf.iv, BitVec.ofNat_add]
    rw [kfold_succ, kstep_lane hx hy hz (kfold_tracks hx hy hz hs _ n), ih (by omega), hiv]
    have hl := l.isLt
    by_cases h : l.val = b + n
    · rw [if_pos (by rw [h]), if_pos (by omega)]
      congr 4
      omega
    · rw [if_neg (fun e => h ((word_inj (by omega) (by omega)).1 e))]
      by_cases h' : b ≤ l.val ∧ l.val < b + n
      · rw [if_pos h', if_pos (by omega)]
      · rw [if_neg h', if_neg (by omega)]

omit hx hy hz in
/-- Clearing the chosen indices keeps the rows' state. -/
theorem cleared_tracks {t : ℕ} {s : Carried Ideal} (hs : Tracks P t s) : Tracks P t (cleared s) :=
  ⟨hs.dists, hs.cx, hs.cy, hs.cz⟩

omit hx hy hz in
/-- The first column of an array. -/
theorem firstCol_apply (w : FVec Ideal S16x4096 .f32) (r : Fin 16) :
    extractStridedSlice S16x1 ![0, 0] w slices_S16x4096_o0_0_S16x1 (ix2 r 0) = w (ix2 r 0) := by
  unfold extractStridedSlice
  refine congrArg w ?_
  funext a
  apply Fin.ext
  match a with
  | ⟨0, _⟩ => simp
  | ⟨1, _⟩ => simp

/-- The first loop starts from every row's first state. -/
theorem start_tracks : Tracks P 0 (start x y z) where
  dists r j := by
    show Ideal.ofBits .f32 0x7F800000#32 = _
    simp [Ideal.ofBits, Ideal.ieee, state_zero]
  cx r := (firstCol_apply x r).trans (hx _ _)
  cy r := (firstCol_apply y r).trans (hy _ _)
  cz r := (firstCol_apply z r).trans (hz _ _)

/-- After chunk `c` every row has made `128 c + 127` steps. -/
theorem chunk_tracks (c : ℕ) : Tracks P (128 * c + 127) (chunk x y z c) := by
  induction c with
  | zero =>
    have h := kfold_tracks hx hy hz (start_tracks hx hy hz) 1#32 127
    exact (show 0 + 127 = 128 * 0 + 127 by omega) ▸ h
  | succ c ih =>
    have h := kfold_tracks hx hy hz (cleared_tracks ih) 0#32 128
    exact (show 128 * c + 127 + 128 = 128 * (c + 1) + 127 by omega) ▸ h

/-- Lane `l` of chunk `c` ends as the point chosen in step `128 c + l`. -/
theorem chunk_lane (c : ℕ) (r : Fin 16) (l : Fin 128) :
    (chunk x y z c).2.2.2.2 (ix2 r l) = BitVec.ofNat 32 (state (P r) (128 * c + l.val)).2.val := by
  have hl := l.isLt
  cases c with
  | zero =>
    refine (kfold_lane hx hy hz (start_tracks hx hy hz) 1 127 (by omega) r l).trans ?_
    by_cases h : l.val = 0
    · rw [if_neg (by omega), h]; rfl
    · rw [if_pos (by omega)]
      congr 4
      omega
  | succ c =>
    refine (kfold_lane hx hy hz (cleared_tracks (chunk_tracks hx hy hz c)) 0 128 (by omega) r l).trans ?_
    rw [if_pos (by omega)]
    congr 4

end Rows

end Cert.KFold

end
-- ==== Proof.KBlock.lean ====
/- What one grid point of the kernel leaves in its block of the result: 16 rows of the 1024 chosen indices. -/
module

public import proofs.«01_k».proof.Proof.KChunk
public import Idealize.ShloMosaic.Lib.Pipeline.Value
public import Idealize.ShloMosaic.Lib.Pipeline.ReadBack
public import Idealize.ShloMosaic.Lib.Pipeline.ValueKit

@[expose] public section

noncomputable section

namespace Cert.KBlock

open Cert.KernelIdeal Cert.KernelIdeal.Gen Cert.Fps Cert.KFold
open Idealize.ShloMosaic hiding ix2 eq_ix2
open Idealize.ShloMosaic.TcCoe Idealize.ShloMosaic.ValueIdx

section Loads
variable (c : Dev nD) (M : Memref sig .tc .vmem S16x4096 .f32) (hM : M.IsWhole) (X : Vec Ideal S16x4096 .f32)

/-- The two zero offsets of a whole-block load. -/
theorem zero_offsets : (![0, 0] : Fin 2 → Nat) = fun _ => 0 := funext fun a => by fin_cases a <;> rfl

/-- Loading a whole coordinate block gives the block. -/
theorem load_block (inb : ∀ a, (![0, 0] : Fin 2 → Nat) a + S16x4096.size a ≤ S16x4096.size a) :
    View.readAt (Elt Ideal) M.view (Rect.unit (s := S16x4096) ![0, 0] S16x4096.size inb).toLoadRect (hM.unread X) = X :=
  (View.ld_unit_zero zero_offsets inb _).trans (hM.read_unread X)

/-- The kernel's first load is its first block. -/
theorem load_x : kernelRun0_A.sl.r_3 c M hM X = X :=
  (shapeCast_self _ _).trans (load_block M hM X _)

/-- The kernel's second load is its second block. -/
theorem load_y : kernelRun0_A.sl.r_4 c M hM X = X :=
  (shapeCast_self _ _).trans (load_block M hM X _)

/-- The kernel's third load is its third block. -/
theorem load_z : kernelRun0_A.sl.r_5 c M hM X = X :=
  (shapeCast_self _ _).trans (load_block M hM X _)

end Loads

/-- The indices chosen for the rows `P`: row `i 0`, step `i 1`. -/
def chosen {n : ℕ} (P : Fin n → Fin 4096 → Fin 3 → EReal) (b : Fin n) (k : ℕ) : BitVec 32 :=
  BitVec.ofNat 32 (state (P b) k).2.val

section Block
variable {P : Fin 16 → Fin 4096 → Fin 3 → EReal} {x y z : FVec Ideal S16x4096 .f32}
  (hx : ∀ r j, x (ix2 r j) = P r j 0) (hy : ∀ r j, y (ix2 r j) = P r j 1) (hz : ∀ r j, z (ix2 r j) = P r j 2)
include hx hy hz

/-- The store of chunk `n` fills columns `128 n` to `128 n + 127` with the indices chosen in those steps. -/
theorem store_chunk (n : ℕ) (inb : ∀ a, (![0, 128 * n] : Fin 2 → Nat) a + S16x128.size a ≤ S16x1024.size a)
    (j : S16x128.Idx) : (chunk x y z n).2.2.2.2 j
      = (fun i : S16x1024.Idx => chosen P (i 0) (i 1).val) ((Rect.unit (s := S16x1024) ![0, 128 * n] S16x128.size inb).emb j) := by
  obtain ⟨r, l, rfl⟩ : ∃ r l, j = ix2 r l := ⟨j 0, j 1, eq_ix2 j⟩
  refine (chunk_lane hx hy hz n r l).trans ?_
  have e0 : ((Rect.unit (s := S16x1024) ![0, 128 * n] S16x128.size inb).emb (ix2 r l)) 0 = r :=
    Fin.ext ((ValueKit.rect_emb_unit_val (s := S16x1024) ![0, 128 * n] S16x128.size inb (ix2 r l) 0).trans (Nat.zero_add _))
  have e1 : (((Rect.unit (s := S16x1024) ![0, 128 * n] S16x128.size inb).emb (ix2 r l)) 1).val = 128 * n + l.val :=
    ValueKit.rect_emb_unit_val (s := S16x1024) ![0, 128 * n] S16x128.size inb (ix2 r l) 1
  show _ = chosen P _ _
  rw [e0, e1]
  rfl

variable (c : Dev nD) (i : grid0.Coords)
  (arg1 : Memref sig .tc .vmem S16x4096 .f32) (harg1 : arg1.IsWhole)
  (arg2 : Memref sig .tc .vmem S16x4096 .f32) (harg2 : arg2.IsWhole)
  (arg3 : Memref sig .tc .vmem S16x4096 .f32) (harg3 : arg3.IsWhole)
  (arg4 : Memref sig .tc .vmem S16x1024 .i32) (harg4 : arg4.IsWhole)

/-- The eight stores of a grid point are the eight column ranges of the chosen indices. -/
theorem stores : View.PiecesOf (fun i : S16x1024.Idx => chosen P (i 0) (i 1).val)
    (kernelRun0_A (F := Ideal) c i arg1 harg1 arg2 harg2 arg3 harg3 arg4 harg4 x y z).1 := by
  unfold kernelRun0_A
  dsimp only
  refine ⟨fun j => ?_, fun j => ?_, fun j => ?_, fun j => ?_, fun j => ?_, fun j => ?_, fun j => ?_, fun j => ?_, trivial⟩
  · dsimp only; rw [loop7, load_x, load_y, load_z]; exact store_chunk hx hy hz 7 _ j
  · dsimp only; rw [loop6, load_x, load_y, load_z]; exact store_chunk hx hy hz 6 _ j
  · dsimp only; rw [loop5, load_x, load_y, load_z]; exact store_chunk hx hy hz 5 _ j
  · dsimp only; rw [loop4, load_x, load_y, load_z]; exact store_chunk hx hy hz 4 _ j
  · dsimp only; rw [loop3, load_x, load_y, load_z]; exact store_chunk hx hy hz 3 _ j
  · dsimp only; rw [loop2, load_x, load_y, load_z]; exact store_chunk hx hy hz 2 _ j
  · dsimp only; rw [loop1, load_x, load_y, load_z]; exact store_chunk hx hy hz 1 _ j
  · dsimp only; rw [loop0, load_x, load_y, load_z]; exact store_chunk hx hy hz 0 _ j

/-- So a grid point leaves the chosen indices of its 16 rows. -/
theorem out_apply (j : S16x1024.Idx) :
    out0_A_3 (F := Ideal) c i arg1 harg1 arg2 harg2 arg3 harg3 arg4 harg4 x y z j = chosen P (j 0) (j 1).val := by
  unfold out0_A_3
  rw [View.read_writes_junk_eq_canon]
  have h := View.canon_append_of_piecesOf _ [] _ (stores hx hy hz c i arg1 harg1 arg2 harg2 arg3 harg3 arg4 harg4) j
    (cover0_A_3 (F := Ideal) c i arg1 harg1 arg2 harg2 arg3 harg3 arg4 harg4 x y z j)
  rwa [List.append_nil] at h

end Block

end Cert.KBlock

end
-- ==== Proof.KArr.lean ====
/- The kernel's whole result: the two grid points' blocks put together, and the run that leaves them. -/
module

public import proofs.«01_k».proof.Proof.KBlock
public import proofs.«01_k».proof.Proof.Gen.KernelIdeal.Value

@[expose] public section

noncomputable section

namespace Cert.KArr

open Cert.KernelIdeal Cert.KernelIdeal.Gen Cert.Fps Cert.KBlock
open Idealize.ShloMosaic hiding ix2 ix3 eq_ix2
open Idealize.ShloMosaic.TcCoe Idealize.ShloMosaic.ValueIdx Idealize.SL.Sem

variable (m : (ℓ : Loc nD τ sig) → Buf (Elt Ideal) ℓ) (ρ : Dev nD → PrngReg)

/-- The points of device `c`'s argument: cloud `b`, point `j`, coordinate `a`. -/
def pts (c : Dev nD) (b : Fin 32) (j : Fin 4096) (a : Fin 3) : EReal :=
  (m ((c : Thread nD τ).loc main_arg0) : FVec Ideal S32x4096x3 .f32) (ix3 b j a)

/-- The 16 clouds of grid point `t`. -/
def rows (c : Dev nD) (t : Fin grid0.N) (r : Fin 16) : Fin 4096 → Fin 3 → EReal :=
  pts m c ⟨16 * t.val + r.val, by have h : t.val < 2 := N_0 ▸ t.isLt; omega⟩

/-- A coordinate's plane, cut out of the points and reshaped, holds that coordinate. -/
theorem plane_apply (x : FVec Ideal S32x4096x3 .f32) (a : Fin 3) (hs : S32x4096x3.Slices ![0, 0, a.val] S32x4096x1)
    (b : Fin 32) (j : Fin 4096) :
    shapeCast S32x4096 (extractStridedSlice S32x4096x1 ![0, 0, a.val] x hs) shapeCasts_S32x4096x1_S32x4096 (ix2 b j)
      = x (ix3 b j a) := by
  refine (shapeCast_apply _ _ (ix2 b j) (ix3 b j 0) ?_).trans (extractStridedSlice_apply _ _ _ _ _ fun d => ?_)
  · rw [Shape.rowMajor_val_three, Shape.rowMajor_val_two]
    show (b.val * 4096 + j.val) * 1 + 0 = b.val * 4096 + j.val
    omega
  · fin_cases d
    · exact (Nat.zero_add _).symm
    · exact (Nat.zero_add _).symm
    · rfl

/-- The first window's array holds the first coordinates. -/
theorem plane_x (c : Dev nD) (b : Fin 32) (j : Fin 4096) :
    (V m c main_call0_v1 : FVec Ideal S32x4096 .f32) (ix2 b j) = pts m c b j 0 := by
  refine Eq.trans (congrFun (?_ : _ = shapeCast S32x4096 (extractStridedSlice S32x4096x1 ![0, 0, (0 : Fin 3).val]
    (m ((c : Thread nD τ).loc main_arg0)) slices_S32x4096x3_S32x4096x1_0_0_0) shapeCasts_S32x4096x1_S32x4096) _)
    (plane_apply _ 0 _ b j)
  unfold_abbrev_sides
  after_results
  rfl

/-- The second window's array holds the second coordinates. -/
theorem plane_y (c : Dev nD) (b : Fin 32) (j : Fin 4096) :
    (V m c main_call0_v3 : FVec Ideal S32x4096 .f32) (ix2 b j) = pts m c b j 1 := by
  refine Eq.trans (congrFun (?_ : _ = shapeCast S32x4096 (extractStridedSlice S32x4096x1 ![0, 0, (1 : Fin 3).val]
    (m ((c : Thread nD τ).loc main_arg0)) slices_S32x4096x3_S32x4096x1_0_0_1) shapeCasts_S32x4096x1_S32x4096) _)
    (plane_apply _ 1 _ b j)
  unfold_abbrev_sides
  after_results
  rfl

/-- The third window's array holds the third coordinates. -/
theorem plane_z (c : Dev nD) (b : Fin 32) (j : Fin 4096) :
    (V m c main_call0_v5 : FVec Ideal S32x4096 .f32) (ix2 b j) = pts m c b j 2 := by
  refine Eq.trans (congrFun (?_ : _ = shapeCast S32x4096 (extractStridedSlice S32x4096x1 ![0, 0, (2 : Fin 3).val]
    (m ((c : Thread nD τ).loc main_arg0)) slices_S32x4096x3_S32x4096x1_0_0_2) shapeCasts_S32x4096x1_S32x4096) _)
    (plane_apply _ 2 _ b j)
  unfold_abbrev_sides
  after_results
  rfl

/-- The windows' blocks: grid point `t` takes block row `t`, block column 0. -/
theorem indices (t : Fin grid0.N) :
    (win0_0.index t 0 = t.val ∧ win0_0.index t 1 = 0) ∧ (win0_1.index t 0 = t.val ∧ win0_1.index t 1 = 0)
      ∧ (win0_2.index t 0 = t.val ∧ win0_2.index t 1 = 0) ∧ (win0_3.index t 0 = t.val ∧ win0_3.index t 1 = 0) := by
  rcases fin_N0 t with rfl | rfl <;> decide +kernel

/-- Row `r` of the first block at point `t` holds the first coordinates of its cloud. -/
theorem block_x (c : Dev nD) (t : Fin grid0.N) (r : Fin 16) (j : Fin 4096) :
    (iblk m c 0 t : FVec Ideal S16x4096 .f32) (ix2 r j) = rows m c t r j 0 := by
  show (V m c main_call0_v1 : FVec Ideal S32x4096 .f32) ((win0_0.rect t).emb (ix2 r j)) = _
  refine Eq.trans (congrArg (V m c main_call0_v1 : FVec Ideal S32x4096 .f32) (?_ : _ = ix2 _ j)) (plane_x m c _ j)
  funext a
  refine Fin.ext ((Pipeline.Window.rect_emb_val win0_0 t _ a).trans ?_)
  fin_cases a
  · show win0_0.index t 0 * 16 + r.val = 16 * t.val + r.val
    rw [(indices t).1.1]; omega
  · show win0_0.index t 1 * 4096 + j.val = j.val
    rw [(indices t).1.2]; omega

/-- Row `r` of the second block at point `t` holds the second coordinates of its cloud. -/
theorem block_y (c : Dev nD) (t : Fin grid0.N) (r : Fin 16) (j : Fin 4096) :
    (iblk m c 1 t : FVec Ideal S16x4096 .f32) (ix2 r j) = rows m c t r j 1 := by
  show (V m c main_call0_v3 : FVec Ideal S32x4096 .f32) ((win0_1.rect t).emb (ix2 r j)) = _
  refine Eq.trans (congrArg (V m c main_call0_v3 : FVec Ideal S32x4096 .f32) (?_ : _ = ix2 _ j)) (plane_y m c _ j)
  funext a
  refine Fin.ext ((Pipeline.Window.rect_emb_val win0_1 t _ a).trans ?_)
  fin_cases a
  · show win0_1.index t 0 * 16 + r.val = 16 * t.val + r.val
    rw [(indices t).2.1.1]; omega
  · show win0_1.index t 1 * 4096 + j.val = j.val
    rw [(indices t).2.1.2]; omega

/-- Row `r` of the third block at point `t` holds the third coordinates of its cloud. -/
theorem block_z (c : Dev nD) (t : Fin grid0.N) (r : Fin 16) (j : Fin 4096) :
    (iblk m c 2 t : FVec Ideal S16x4096 .f32) (ix2 r j) = rows m c t r j 2 := by
  show (V m c main_call0_v5 : FVec Ideal S32x4096 .f32) ((win0_2.rect t).emb (ix2 r j)) = _
  refine Eq.trans (congrArg (V m c main_call0_v5 : FVec Ideal S32x4096 .f32) (?_ : _ = ix2 _ j)) (plane_z m c _ j)
  funext a
  refine Fin.ext ((Pipeline.Window.rect_emb_val win0_2 t _ a).trans ?_)
  fin_cases a
  · show win0_2.index t 0 * 16 + r.val = 16 * t.val + r.val
    rw [(indices t).2.2.1.1]; omega
  · show win0_2.index t 1 * 4096 + j.val = j.val
    rw [(indices t).2.2.1.2]; omega

/-- The kernel's result array: the indices chosen for every cloud. -/
def result (c : Dev nD) : S32x1024.Idx → BitVec 32 := fun i => chosen (pts m c) (i 0) (i 1).val

/-- What grid point `t` writes back is block `t` of the result. -/
theorem flushed_eq (c : Dev nD) (t : Fin cfg0.N) :
    (dats m 0 c).flushed 3 t = ((cfg0.win 3).blk t).view.read (Elt Ideal) (result m c) := by
  rw [Value.flushed3_A]
  funext j
  refine (out_apply (P := rows m c t) (block_x m c t) (block_y m c t) (block_z m c t) c (grid0.coords t) _ _ _ _ _ _ _ _
    j).trans ?_
  show _ = result m c ((win0_3.rect t).emb j)
  have h0 : ((win0_3.rect t).emb j 0).val = 16 * t.val + (j 0).val :=
    (Pipeline.Window.rect_emb_val win0_3 t j 0).trans (by
      show win0_3.index t 0 * 16 + (j 0).val = 16 * t.val + (j 0).val
      rw [(indices t).2.2.2.1]; omega)
  have h1 : ((win0_3.rect t).emb j 1).val = (j 1).val :=
    (Pipeline.Window.rect_emb_val win0_3 t j 1).trans (by
      show win0_3.index t 1 * 1024 + (j 1).val = (j 1).val
      rw [(indices t).2.2.2.2]; omega)
  show chosen (rows m c t) (j 0) (j 1).val = chosen (pts m c) ((win0_3.rect t).emb j 0) ((win0_3.rect t).emb j 1).val
  rw [h1]
  exact congrArg (fun b => chosen (pts m c) b (j 1).val) (Fin.ext h0).symm

/-- An index is in point `t`'s block when its row is one of the block's 16. -/
theorem mem_blk (t : Fin cfg0.N) (i : S32x1024.Idx) (h : 16 * t.val ≤ (i 0).val ∧ (i 0).val < 16 * t.val + 16) :
    i ∈ ((cfg0.win 3).blk t).view.set := by
  show i ∈ ((View.whole main_v0).slice (win0_3.rect t)).set
  rw [View.set_slice_whole, Rect.mem_set_unit]
  have h1 : (i 1).val < 1024 := (i 1).isLt
  intro a
  match a with
  | ⟨0, _⟩ =>
    show win0_3.index t 0 * 16 ≤ (i 0).val ∧ (i 0).val < win0_3.index t 0 * 16 + 16
    rw [(indices t).2.2.2.1]; omega
  | ⟨1, _⟩ =>
    show win0_3.index t 1 * 1024 ≤ (i 1).val ∧ (i 1).val < win0_3.index t 1 * 1024 + 1024
    rw [(indices t).2.2.2.2]; omega

/-- The two blocks cover the result. -/
theorem cover (i : S32x1024.Idx) :
    ∃ t : Fin cfg0.N, (cfg0.win 3).flush t = true ∧ i ∈ ((cfg0.win 3).blk t).view.set := by
  have h0 : (i 0).val < 32 := (i 0).isLt
  have hN : cfg0.N = 2 := N_0
  refine ⟨⟨(i 0).val / 16, by omega⟩, flush0_3 _, mem_blk _ _ ?_⟩
  dsimp only
  omega

/-- The run of the kernel: it ends with the chosen indices in its result, its argument unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) :=
  (θ_run defs _ _).mono (fun _ h c => ⟨(h c).1.trans
      ((dats m 0 c).arrAt_eq_of_cover 3 (result m c) (fun t _ => flushed_eq m c t) cover), (h c).2⟩)
    (Value.run_blocks m ρ)

end Cert.KArr

end
-- ==== Proof.RefOps.lean ====
/- The reference program, cut into stretches of host operations, and what each stretch touches and writes. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead

@[expose] public section

noncomputable section

namespace Cert.RefRun

open Cert.ReferenceIdeal Cert.ReferenceIdeal.Gen
open Idealize.ShloMosaic Idealize.ShloMosaic.TcCoe Idealize.ShloMosaic.StableHlo Idealize.ShloMosaic.Tactic
open Idealize.SL Idealize.SL.Sem

variable {F : FTy → Type} [FloatOps F]

/-! ## The program's operations, in order -/

/-- Before the loop: a row of zeros, the infinite distances, the empty rows of indices; and the loop's five buffers filled. -/
abbrev openOps : List (HloOp τ sig (Elt F)) :=
  [ StableHlo.nullary main_c (constantI S_ 32 0#32),
    StableHlo.unary main_c main_v0 (broadcastInDim S32 ![] bcast_S_S32 : (⟨S_, .i32⟩ : BufTy).Contents (Elt F) → (⟨S32, .i32⟩ : BufTy).Contents (Elt F)),
    StableHlo.nullary main_cst (constant S_ .f32 0x7F800000#32),
    StableHlo.unary main_cst main_v1 (broadcastInDim S32x4096 ![] bcast_S_S32x4096 : (⟨S_, .f32⟩ : BufTy).Contents (Elt F) → (⟨S32x4096, .f32⟩ : BufTy).Contents (Elt F)),
    StableHlo.nullary main_c_0 (constantI S_ 32 0#32),
    StableHlo.unary main_c_0 main_v2 (broadcastInDim S1023x32 ![] bcast_S_S1023x32 : (⟨S_, .i32⟩ : BufTy).Contents (Elt F) → (⟨S1023x32, .i32⟩ : BufTy).Contents (Elt F)),
    StableHlo.nullary main_c_1 (constantI S_ 32 0#32),
    StableHlo.unary main_arg0 main_v3_0 id,
    StableHlo.unary main_c_1 main_v3_1 id,
    StableHlo.unary main_v1 main_v3_2 id,
    StableHlo.unary main_v0 main_v3_3 id,
    StableHlo.unary main_v2 main_v3_4 id ]

/-- The loop's condition: the trip counter against 1023. -/
abbrev condOps : List (HloOp τ sig (Elt F)) :=
  [ StableHlo.nullary main_while0c_c_6 (constantI S_ 32 1023#32),
    StableHlo.binary main_v3_1 main_while0c_c_6 main_while0c_v7 (cmpi .slt) ]

/-- The last chosen indices, as a column. -/
abbrev pickOps : List (HloOp τ sig (Elt F)) :=
  [ StableHlo.unary main_v3_3 main_while0b_v7 (broadcastInDim S32x1x1 ![0] bcast_S32_S32x1x1_0 : (⟨S32, .i32⟩ : BufTy).Contents (Elt F) → (⟨S32x1x1, .i32⟩ : BufTy).Contents (Elt F)) ]

/-- The last chosen points: an index wrapped if negative, its range tested, the points read. -/
abbrev gatherOps : List (HloOp τ sig (Elt F)) :=
  [ StableHlo.TRef.nullary (.of main_while0b_call0_c : StableHlo.TRef sig ⟨S_, .i32⟩) (constantI S_ 32 0#32),
    StableHlo.TRef.unary (.of main_while0b_call0_c : StableHlo.TRef sig ⟨S_, .i32⟩) (.of main_while0b_call0_v0 : StableHlo.TRef sig ⟨S32x1x1, .i32⟩) (broadcastInDim S32x1x1 ![] bcast_S_S32x1x1),
    StableHlo.TRef.binary (.of main_while0b_v7 : StableHlo.TRef sig ⟨S32x1x1, .i32⟩) (.of main_while0b_call0_v0 : StableHlo.TRef sig ⟨S32x1x1, .i32⟩) (.of main_while0b_call0_v1 : StableHlo.TRef sig ⟨S32x1x1, .i1⟩) (cmpi .slt),
    StableHlo.TRef.nullary (.of main_while0b_call0_c_0 : StableHlo.TRef sig ⟨S_, .i32⟩) (constantI S_ 32 4096#32),
    StableHlo.TRef.unary (.of main_while0b_call0_c_0 : StableHlo.TRef sig ⟨S_, .i32⟩) (.of main_while0b_call0_v2 : StableHlo.TRef sig ⟨S32x1x1, .i32⟩) (broadcastInDim S32x1x1 ![] bcast_S_S32x1x1),
    StableHlo.TRef.binary (.of main_while0b_v7 : StableHlo.TRef sig ⟨S32x1x1, .i32⟩) (.of main_while0b_call0_v2 : StableHlo.TRef sig ⟨S32x1x1, .i32⟩) (.of main_while0b_call0_v3 : StableHlo.TRef sig ⟨S32x1x1, .i32⟩) addi,
    StableHlo.TRef.ternary (.of main_while0b_call0_v1 : StableHlo.TRef sig ⟨S32x1x1, .i1⟩) (.of main_while0b_call0_v3 : StableHlo.TRef sig ⟨S32x1x1, .i32⟩) (.of main_while0b_v7 : StableHlo.TRef sig ⟨S32x1x1, .i32⟩) (.of main_while0b_call0_v4 : StableHlo.TRef sig ⟨S32x1x1, .i32⟩) select,
    StableHlo.TRef.nullary (.of main_while0b_call0_c_1 : StableHlo.TRef sig ⟨S1, .i32⟩) (constantI S1 32 4095#32),
    StableHlo.TRef.nullary (.of main_while0b_call0_c_2 : StableHlo.TRef sig ⟨S_, .i32⟩) (constantI S_ 32 0#32),
    StableHlo.TRef.unary (.of main_while0b_call0_c_2 : StableHlo.TRef sig ⟨S_, .i32⟩) (.of main_while0b_call0_v5 : StableHlo.TRef sig ⟨S32x1x1, .i32⟩) (broadcastInDim S32x1x1 ![] bcast_S_S32x1x1),
    StableHlo.TRef.binary (.of main_while0b_call0_v4 : StableHlo.TRef sig ⟨S32x1x1, .i32⟩) (.of main_while0b_call0_v5 : StableHlo.TRef sig ⟨S32x1x1, .i32⟩) (.of main_while0b_call0_v6 : StableHlo.TRef sig ⟨S32x1x1, .i1⟩) (cmpi .sge),
    StableHlo.TRef.unary (.of main_while0b_call0_c_1 : StableHlo.TRef sig ⟨S1, .i32⟩) (.of main_while0b_call0_v7 : StableHlo.TRef sig ⟨S1x1x1, .i32⟩) (broadcastInDim S1x1x1 ![2] bcast_S1_S1x1x1_2),
    StableHlo.TRef.unary (.of main_while0b_call0_v7 : StableHlo.TRef sig ⟨S1x1x1, .i32⟩) (.of main_while0b_call0_v8 : StableHlo.TRef sig ⟨S32x1x1, .i32⟩) (broadcastInDim S32x1x1 ![0, 1, 2] bcast_S1x1x1_S32x1x1_0_1_2),
    StableHlo.TRef.binary (.of main_while0b_call0_v4 : StableHlo.TRef sig ⟨S32x1x1, .i32⟩) (.of main_while0b_call0_v8 : StableHlo.TRef sig ⟨S32x1x1, .i32⟩) (.of main_while0b_call0_v9 : StableHlo.TRef sig ⟨S32x1x1, .i1⟩) (cmpi .sle),
    StableHlo.TRef.binary (.of main_while0b_call0_v6 : StableHlo.TRef sig ⟨S32x1x1, .i1⟩) (.of main_while0b_call0_v9 : StableHlo.TRef sig ⟨S32x1x1, .i1⟩) (.of main_while0b_call0_v10 : StableHlo.TRef sig ⟨S32x1x1, .i1⟩) andi,
    StableHlo.TRef.nullary (.of main_while0b_call0_c_3 : StableHlo.TRef sig ⟨S_, .i1⟩) (constantI S_ 1 1#1),
    StableHlo.TRef.binary (.of main_while0b_call0_v10 : StableHlo.TRef sig ⟨S32x1x1, .i1⟩) (.of main_while0b_call0_c_3 : StableHlo.TRef sig ⟨S_, .i1⟩) (.of main_while0b_call0_v11 : StableHlo.TRef sig ⟨S32x1, .i1⟩) (fun x v => Host.reduce IntOp.andi x v reducesTo_S32x1x1_S32x1_d2 h_S_),
    StableHlo.TRef.binary (.of main_v3_0 : StableHlo.TRef sig ⟨S32x4096x3, .f32⟩) (.of main_while0b_call0_v4 : StableHlo.TRef sig ⟨S32x1x1, .i32⟩) (.of main_while0b_call0_v12 : StableHlo.TRef sig ⟨S32x1x3, .f32⟩) (fun x i => Host.gather gather_S32x4096x3_S32x1x1_S32x1x3_2_1_0_0_1_2_113 x i),
    StableHlo.TRef.unary (.of main_while0b_call0_v11 : StableHlo.TRef sig ⟨S32x1, .i1⟩) (.of main_while0b_call0_v13 : StableHlo.TRef sig ⟨S32x1x3, .i1⟩) (broadcastInDim S32x1x3 ![0, 1] bcast_S32x1_S32x1x3_0_1),
    StableHlo.TRef.nullary (.of main_while0b_call0_cst : StableHlo.TRef sig ⟨S_, .f32⟩) (constant S_ .f32 0x7FC00000#32),
    StableHlo.TRef.unary (.of main_while0b_call0_cst : StableHlo.TRef sig ⟨S_, .f32⟩) (.of main_while0b_call0_v14 : StableHlo.TRef sig ⟨S32x1x3, .f32⟩) (broadcastInDim S32x1x3 ![] bcast_S_S32x1x3),
    StableHlo.TRef.ternary (.of main_while0b_call0_v13 : StableHlo.TRef sig ⟨S32x1x3, .i1⟩) (.of main_while0b_call0_v12 : StableHlo.TRef sig ⟨S32x1x3, .f32⟩) (.of main_while0b_call0_v14 : StableHlo.TRef sig ⟨S32x1x3, .f32⟩) (.of main_while0b_v8 : StableHlo.TRef sig ⟨S32x1x3, .f32⟩) select ]

/-- The new distances: the squared distances to the last chosen points, and the lesser of them and the old ones. -/
abbrev distOps : List (HloOp τ sig (Elt F)) :=
  [ StableHlo.unary main_while0b_v8 main_while0b_v9 (broadcastInDim S32x4096x3 ![0, 1, 2] bcast_S32x1x3_S32x4096x3_0_1_2 : (⟨S32x1x3, .f32⟩ : BufTy).Contents (Elt F) → (⟨S32x4096x3, .f32⟩ : BufTy).Contents (Elt F)),
    StableHlo.binary main_v3_0 main_while0b_v9 main_while0b_v10 (subf : (⟨S32x4096x3, .f32⟩ : BufTy).Contents (Elt F) → (⟨S32x4096x3, .f32⟩ : BufTy).Contents (Elt F) → (⟨S32x4096x3, .f32⟩ : BufTy).Contents (Elt F)),
    StableHlo.binary main_while0b_v10 main_while0b_v10 main_while0b_v11 (mulf : (⟨S32x4096x3, .f32⟩ : BufTy).Contents (Elt F) → (⟨S32x4096x3, .f32⟩ : BufTy).Contents (Elt F) → (⟨S32x4096x3, .f32⟩ : BufTy).Contents (Elt F)),
    StableHlo.nullary main_while0b_cst_6 (constant S_ .f32 0x00000000#32),
    StableHlo.binary main_while0b_v11 main_while0b_cst_6 main_while0b_v12 ((fun x v => Host.reduceAdd x v reducesTo_S32x4096x3_S32x4096_d2 h_S_) : (⟨S32x4096x3, .f32⟩ : BufTy).Contents (Elt F) → (⟨S_, .f32⟩ : BufTy).Contents (Elt F) → (⟨S32x4096, .f32⟩ : BufTy).Contents (Elt F)),
    StableHlo.binary main_v3_2 main_while0b_v12 main_while0b_v13 (minimumf : (⟨S32x4096, .f32⟩ : BufTy).Contents (Elt F) → (⟨S32x4096, .f32⟩ : BufTy).Contents (Elt F) → (⟨S32x4096, .f32⟩ : BufTy).Contents (Elt F)) ]

/-- The search of the largest new distance. -/
abbrev argmaxOps : List (HloOp τ sig (Elt F)) :=
  [ StableHlo.TRef.nullary (.of main_while0b_call1_v0 : StableHlo.TRef sig ⟨S32x4096, .i32⟩) (iotaInDim S32x4096 32 1),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v13 : StableHlo.TRef sig ⟨S32x4096, .f32⟩) (.of main_while0b_call1_v0 : StableHlo.TRef sig ⟨S32x4096, .i32⟩) (.of main_while0b_call1_cst : StableHlo.TRef sig ⟨S_, .f32⟩) (.of main_while0b_call1_c : StableHlo.TRef sig ⟨S_, .i32⟩) (.of main_while0b_call1_v1_0 : StableHlo.TRef sig ⟨S32, .f32⟩) (fun x y u v j => (Host.argReduce reducer_argmax_f32_i32 x y u v reducesTo_S32x4096_S32_d1 h_S_ j).1),
    StableHlo.TRef.quaternary (.of main_while0b_v13 : StableHlo.TRef sig ⟨S32x4096, .f32⟩) (.of main_while0b_call1_v0 : StableHlo.TRef sig ⟨S32x4096, .i32⟩) (.of main_while0b_call1_cst : StableHlo.TRef sig ⟨S_, .f32⟩) (.of main_while0b_call1_c : StableHlo.TRef sig ⟨S_, .i32⟩) (.of main_while0b_v14 : StableHlo.TRef sig ⟨S32, .i32⟩) (fun x y u v j => (Host.argReduce reducer_argmax_f32_i32 x y u v reducesTo_S32x4096_S32_d1 h_S_ j).2) ]

/-- The found indices, written into the row of this trip. -/
abbrev writeOps : List (HloOp τ sig (Elt F)) :=
  [ StableHlo.TRef.unary (.of main_while0b_v14 : StableHlo.TRef sig ⟨S32, .i32⟩) (.of main_while0b_call2_v0 : StableHlo.TRef sig ⟨S1x32, .i32⟩) (broadcastInDim S1x32 ![1] bcast_S32_S1x32_1),
    StableHlo.TRef.nullary (.of main_while0b_call2_c : StableHlo.TRef sig ⟨S_, .i32⟩) (constantI S_ 32 0#32),
    StableHlo.TRef.binaryIndexed (.of main_v3_4 : StableHlo.TRef sig ⟨S1023x32, .i32⟩) (.of main_while0b_call2_v0 : StableHlo.TRef sig ⟨S1x32, .i32⟩) ![(.of main_v3_1 : StableHlo.TRef sig ⟨S_, .i32⟩), (.of main_while0b_call2_c : StableHlo.TRef sig ⟨S_, .i32⟩)] (.of main_while0b_v15 : StableHlo.TRef sig ⟨S1023x32, .i32⟩) (fun x u i => Host.dynamicUpdateSlice x u (fun k => (i k (Shape.Idx.first h_S_)).toInt) updateFits_S1023x32_S1x32) ]

/-- The counter, the distances, the indices and the rows handed to the next trip. -/
abbrev carryOps : List (HloOp τ sig (Elt F)) :=
  [ StableHlo.nullary main_while0b_c_7 (constantI S_ 32 1#32),
    StableHlo.binary main_v3_1 main_while0b_c_7 main_while0b_v16 (addi : (⟨S_, .i32⟩ : BufTy).Contents (Elt F) → (⟨S_, .i32⟩ : BufTy).Contents (Elt F) → (⟨S_, .i32⟩ : BufTy).Contents (Elt F)),
    StableHlo.unary main_while0b_v16 main_v3_1 id,
    StableHlo.unary main_while0b_v13 main_v3_2 id,
    StableHlo.unary main_while0b_v14 main_v3_3 id,
    StableHlo.unary main_while0b_v15 main_v3_4 id ]

/-- After the loop: the row of zeros on top of the written rows, transposed. -/
abbrev closeOps : List (HloOp τ sig (Elt F)) :=
  [ StableHlo.unary main_v0 main_v4 (broadcastInDim S1x32 ![1] bcast_S32_S1x32_1 : (⟨S32, .i32⟩ : BufTy).Contents (Elt F) → (⟨S1x32, .i32⟩ : BufTy).Contents (Elt F)),
    StableHlo.binary main_v4 main_v3_4 main_v5 ((fun a b => concatenate S1024x32 0 [⟨S1x32, a⟩, ⟨S1023x32, b⟩] concatenates_S1x32_S1023x32_S1024x32_d0) : (⟨S1x32, .i32⟩ : BufTy).Contents (Elt F) → (⟨S1023x32, .i32⟩ : BufTy).Contents (Elt F) → (⟨S1024x32, .i32⟩ : BufTy).Contents (Elt F)),
    StableHlo.unary main_v5 main_v6 ((transpose S32x1024 [1, 0] · transposes_S1024x32_S32x1024_1_0) : (⟨S1024x32, .i32⟩ : BufTy).Contents (Elt F) → (⟨S32x1024, .i32⟩ : BufTy).Contents (Elt F)) ]

/-! ## What is asked of a stretch -/

/-- A stretch of operations touches host buffers only, allocates none, and writes at most the buffers `W`. -/
structure Stretch (ops : List (HloOp τ sig (Elt F))) (W : List (Ref sig .tc)) : Prop where
  /-- It touches host buffers only. -/
  sub : ops.Forall fun op => op.bufs ⊆ tcRefs τ sig := by
    repeat' first
      | exact nullary_bufs_sub .. | exact unary_bufs_sub .. | exact binary_bufs_sub .. | exact ternary_bufs_sub ..
      | exact quaternary_bufs_sub .. | exact binaryIndexed_bufs_sub .. | refine And.intro ?_ ?_
  /-- It allocates none. -/
  fresh : ops.Forall fun op => op.fresh = ∅ := by exact forall_fresh_of_map rfl
  /-- It writes at most `W`. -/
  writes : ops.Forall fun op => op.writes ⊆ (W.map (Proc.devRef (τ := τ) .tc)).toFinset := by
    exact forall_writes_sub_of_map rfl

/-- A buffer outside `W` is after the stretch as before. -/
theorem Stretch.keep {ops : List (HloOp τ sig (Elt F))} {W : List (Ref sig .tc)} (h : Stretch ops W)
    (V : Valuation τ sig (Elt F)) {r : Ref sig .tc} (hr : r ∉ W) :
    after ops V (no_index (Proc.devRef .tc r)) = V (Proc.devRef .tc r) :=
  after_of_writes_sub ops V h.writes hr

/-- Such a stretch may stand in front of a list of stretches that the run theorem takes. -/
theorem Stretch.plain {ops : List (HloOp τ sig (Elt F))} {W : List (Ref sig .tc)} (h : Stretch ops W)
    {rest : List (List (HloOp τ sig (Elt F)))} (hr : Plain rest) : Plain (ops :: rest) :=
  .cons h.sub hr (List.forall_iff_forall_mem.mp h.fresh)

/-- The stretch before the loop, with the buffers it writes. -/
theorem open_ok : Stretch (F := F) openOps
    [main_c, main_v0, main_cst, main_v1, main_c_0, main_v2, main_c_1, main_v3_0, main_v3_1, main_v3_2,
     main_v3_3, main_v3_4] := {}

/-- The stretch of the condition, with the buffers it writes. -/
theorem cond_ok : Stretch (F := F) condOps
    [main_while0c_c_6, main_while0c_v7] := {}

/-- The stretch that lays out the indices, with the buffers it writes. -/
theorem pick_ok : Stretch (F := F) pickOps
    [main_while0b_v7] := {}

/-- The stretch that reads the points, with the buffers it writes. -/
theorem gather_ok : Stretch (F := F) gatherOps
    [main_while0b_call0_c, main_while0b_call0_v0, main_while0b_call0_v1, main_while0b_call0_c_0,
     main_while0b_call0_v2, main_while0b_call0_v3, main_while0b_call0_v4, main_while0b_call0_c_1,
     main_while0b_call0_c_2, main_while0b_call0_v5, main_while0b_call0_v6, main_while0b_call0_v7,
     main_while0b_call0_v8, main_while0b_call0_v9, main_while0b_call0_v10, main_while0b_call0_c_3,
     main_while0b_call0_v11, main_while0b_call0_v12, main_while0b_call0_v13, main_while0b_call0_cst,
     main_while0b_call0_v14, main_while0b_v8] where
  sub :=
      ⟨nullary_bufs_sub .., unary_bufs_sub .., binary_bufs_sub .., nullary_bufs_sub .., unary_bufs_sub ..,
       binary_bufs_sub .., ternary_bufs_sub .., nullary_bufs_sub .., nullary_bufs_sub .., unary_bufs_sub ..,
       binary_bufs_sub .., unary_bufs_sub .., unary_bufs_sub .., binary_bufs_sub .., binary_bufs_sub ..,
       nullary_bufs_sub .., binary_bufs_sub .., binary_bufs_sub .., unary_bufs_sub .., nullary_bufs_sub ..,
       unary_bufs_sub .., ternary_bufs_sub ..⟩

/-- The stretch that computes the distances, with the buffers it writes. -/
theorem dist_ok : Stretch (F := F) distOps
    [main_while0b_v9, main_while0b_v10, main_while0b_v11, main_while0b_cst_6, main_while0b_v12,
     main_while0b_v13] := {}

/-- The stretch that searches, with the buffers it writes. -/
theorem argmax_ok : Stretch (F := F) argmaxOps
    [main_while0b_call1_v0, main_while0b_call1_cst, main_while0b_call1_c, main_while0b_call1_v1_0,
     main_while0b_v14] where
  sub :=
      ⟨nullary_bufs_sub .., nullary_bufs_sub .., nullary_bufs_sub .., quaternary_bufs_sub ..,
       quaternary_bufs_sub ..⟩

/-- The stretch that writes the row, with the buffers it writes. -/
theorem write_ok : Stretch (F := F) writeOps
    [main_while0b_call2_v0, main_while0b_call2_c, main_while0b_v15] where
  sub :=
      ⟨unary_bufs_sub .., nullary_bufs_sub .., binaryIndexed_bufs_sub ..⟩

/-- The stretch that hands over, with the buffers it writes. -/
theorem carry_ok : Stretch (F := F) carryOps
    [main_while0b_c_7, main_while0b_v16, main_v3_1, main_v3_2, main_v3_3, main_v3_4] := {}

/-- The stretch after the loop, with the buffers it writes. -/
theorem close_ok : Stretch (F := F) closeOps
    [main_v4, main_v5, main_v6] := {}

/-! ## The program in these terms -/

/-- The stretches before the loop. -/
abbrev preI : List (List (HloOp τ sig (Elt F))) := [openOps]
/-- The stretches of one run of the loop's body. -/
abbrev bodyI : List (List (HloOp τ sig (Elt F))) := [pickOps, gatherOps, distOps, argmaxOps, writeOps, carryOps]
/-- The stretches after the loop. -/
abbrev postI : List (List (HloOp τ sig (Elt F))) := [closeOps]

/-- The program runs the opening stretch, the loop and the closing stretch. -/
theorem main_chain (c : Dev nD) : main (F := F) c = (Pipeline.chain [seq openOps, HostLoop.enter 0, seq closeOps] :
    Prog (TpuEff nD τ sig (Elt F) (HostLoop.Sig (Pipeline.Sig Λ₀ (Fin 0) fun p => (pcfgs (F := F) p).Adm) 1) .tc) PUnit) := by
  rewrite [chain_seq_cons, Pipeline.chain_cons, chain_seq_cons]
  chain_rfl

/-- The loop's body runs its six stretches. -/
theorem body_chain : main_while0_body (F := F)
    = (Pipeline.chain [seq pickOps, seq gatherOps, seq distOps, seq argmaxOps, seq writeOps, seq carryOps] :
    Prog (TpuEff nD τ sig (Elt F) (HostLoop.Sig (Pipeline.Sig Λ₀ (Fin 0) fun p => (pcfgs (F := F) p).Adm) 1) .tc) PUnit) := by
  rewrite [chain_seq_cons, Pipeline.chain_cons, chain_seq_cons, Pipeline.chain_cons, Pipeline.chain_cons, chain_seq_cons]
  chain_rfl

end Cert.RefRun

end
-- ==== Proof.RefTrip.lean ====
/- One trip of the reference's loop: what each stretch computes from what it reads, and so what the trip leaves in the
   five buffers the loop carries (points, counter, distances, last chosen indices, rows of chosen indices). -/
module

public import proofs.«01_k».proof.Proof.RefOps

@[expose] public section

noncomputable section

namespace Cert.RefRun

open Cert.ReferenceIdeal Cert.ReferenceIdeal.Gen
open Idealize.ShloMosaic Idealize.ShloMosaic.TcCoe Idealize.ShloMosaic.StableHlo Idealize.ShloMosaic.Tactic

variable {F : FTy → Type} [FloatOps F]

/-! ## The values -/

/-- The last chosen indices, as a column. -/
def column (l : IVec S32 32) : IVec S32x1x1 32 := broadcastInDim S32x1x1 ![0] bcast_S32_S32x1x1_0 l

/-- An index that counts from the end when it is negative. -/
def wrap (w : IVec S32x1x1 32) : IVec S32x1x1 32 :=
  select (cmpi .slt w (broadcastInDim S32x1x1 ![] bcast_S_S32x1x1 (constantI S_ 32 0#32)))
    (addi w (broadcastInDim S32x1x1 ![] bcast_S_S32x1x1 (constantI S_ 32 4096#32))) w

/-- Whether an index is one of 0 to 4095. -/
def inRange (w : IVec S32x1x1 32) : IVec S32x1x1 1 :=
  andi (cmpi .sge w (broadcastInDim S32x1x1 ![] bcast_S_S32x1x1 (constantI S_ 32 0#32)))
    (cmpi .sle w (broadcastInDim S32x1x1 ![0, 1, 2] bcast_S1x1x1_S32x1x1_0_1_2
      (broadcastInDim S1x1x1 ![2] bcast_S1_S1x1x1_2 (constantI S1 32 4095#32))))

/-- The points at the indices, where these are in range. -/
def pointsAt (x : FVec F S32x4096x3 .f32) (w : IVec S32x1x1 32) : FVec F S32x1x3 .f32 :=
  select (broadcastInDim S32x1x3 ![0, 1] bcast_S32x1_S32x1x3_0_1
      (Host.reduce IntOp.andi (inRange w) (constantI S_ 1 1#1) reducesTo_S32x1x1_S32x1_d2 h_S_))
    (Host.gather gather_S32x4096x3_S32x1x1_S32x1x3_2_1_0_0_1_2_113 x w)
    (broadcastInDim S32x1x3 ![] bcast_S_S32x1x3 (constant S_ .f32 0x7FC00000#32))

/-- The coordinates relative to one point of each cloud. -/
def relative (x : FVec F S32x4096x3 .f32) (q : FVec F S32x1x3 .f32) : FVec F S32x4096x3 .f32 :=
  subf x (broadcastInDim S32x4096x3 ![0, 1, 2] bcast_S32x1x3_S32x4096x3_0_1_2 q)

/-- The lesser of the old distances and the squared distances to one point of each cloud. -/
def nearer (x : FVec F S32x4096x3 .f32) (d : FVec F S32x4096 .f32) (q : FVec F S32x1x3 .f32) : FVec F S32x4096 .f32 :=
  minimumf d (Host.reduceAdd (mulf (relative x q) (relative x q)) (constant S_ .f32 0x00000000#32)
    reducesTo_S32x4096x3_S32x4096_d2 h_S_)

/-- The index of a largest distance in each cloud. -/
def search (d : FVec F S32x4096 .f32) : IVec S32 32 := fun j =>
  (Host.argReduce reducer_argmax_f32_i32 d (iotaInDim S32x4096 32 1) (constant S_ .f32 0xFF800000#32)
    (constantI S_ 32 0#32) reducesTo_S32x4096_S32_d1 h_S_ j).2

/-- The rows `o` with row `k` replaced by the indices `l`. -/
def writeRow (o : IVec S1023x32 32) (k : IVec S_ 32) (l : IVec S32 32) : IVec S1023x32 32 :=
  Host.dynamicUpdateSlice o (broadcastInDim S1x32 ![1] bcast_S32_S1x32_1 l)
    (fun a => ((![k, constantI S_ 32 0#32] : Fin 2 → IVec S_ 32) a (Shape.Idx.first h_S_)).toInt) updateFits_S1023x32_S1x32

/-- The new distances of a trip that starts from points `x`, distances `d` and last chosen indices `l`. -/
def newDists (x : FVec F S32x4096x3 .f32) (d : FVec F S32x4096 .f32) (l : IVec S32 32) : FVec F S32x4096 .f32 :=
  nearer x d (pointsAt x (wrap (column l)))

/-! ## The stretches -/

section
variable (V : Valuation τ sig (Elt F))

/-- The first stretch lays out the last chosen indices. -/
theorem pick_reads : after pickOps V (no_index (Proc.devRef .tc main_while0b_v7)) = column (V (Proc.devRef .tc main_v3_3)) := by
  after_results
  rfl

set_option maxHeartbeats 1000000 in
set_option maxRecDepth 8192 in
/-- The second reads the points there. -/
theorem gather_reads : after gatherOps V (no_index (Proc.devRef .tc main_while0b_v8))
    = pointsAt (V (Proc.devRef .tc main_v3_0) : FVec F S32x4096x3 .f32) (wrap (V (Proc.devRef .tc main_while0b_v7))) := by
  simp only [gatherOps]
  after_results_entrywise [pointsAt, inRange, wrap, cast_eq]

/-- The third computes the distances. -/
theorem dist_reads : after distOps V (no_index (Proc.devRef .tc main_while0b_v13))
    = nearer (V (Proc.devRef .tc main_v3_0) : FVec F S32x4096x3 .f32) (V (Proc.devRef .tc main_v3_2)) (V (Proc.devRef .tc main_while0b_v8)) := by
  after_results
  rfl

/-- The fourth searches. -/
theorem argmax_reads : after argmaxOps V (no_index (Proc.devRef .tc main_while0b_v14))
    = search (V (Proc.devRef .tc main_while0b_v13) : FVec F S32x4096 .f32) := by
  simp only [argmaxOps]
  after_results_entrywise [search, cast_eq]

/-- The fifth writes the trip's row. -/
theorem write_reads : after writeOps V (no_index (Proc.devRef .tc main_while0b_v15))
    = writeRow (V (Proc.devRef .tc main_v3_4)) (V (Proc.devRef .tc main_v3_1)) (V (Proc.devRef .tc main_while0b_v14)) := by
  simp only [writeOps]
  after_results_entrywise [writeRow, cast_eq]

/-- The last hands over the counter, one higher, -/
theorem carry_ctr : after carryOps V (no_index (Proc.devRef .tc main_v3_1))
    = addi (V (Proc.devRef .tc main_v3_1) : IVec S_ 32) (constantI S_ 32 1#32) := by
  after_results
  rfl

/-- the distances, -/
theorem carry_dists : after carryOps V (no_index (Proc.devRef .tc main_v3_2)) = V (Proc.devRef .tc main_while0b_v13) := by
  after_results
  rfl

/-- the indices, -/
theorem carry_last : after carryOps V (no_index (Proc.devRef .tc main_v3_3)) = V (Proc.devRef .tc main_while0b_v14) := by
  after_results
  rfl

/-- and the rows. -/
theorem carry_out : after carryOps V (no_index (Proc.devRef .tc main_v3_4)) = V (Proc.devRef .tc main_while0b_v15) := by
  after_results
  rfl

/-! ## The trip -/

/-- One trip: the condition, then the body. -/
abbrev trip : Valuation τ sig (Elt F) := afterL bodyI (after condOps V)

/-- The new distances, in the trip's terms. -/
abbrev tripDists : FVec F S32x4096 .f32 :=
  newDists (V (Proc.devRef .tc main_v3_0) : FVec F S32x4096x3 .f32) (V (Proc.devRef .tc main_v3_2)) (V (Proc.devRef .tc main_v3_3))

/-- A buffer that none of its stretches writes is after a trip as before. -/
theorem trip_keep {r : Ref sig .tc} (hr : r ∈ [main_arg0, main_v0, main_v3_0]) :
    trip V (Proc.devRef .tc r) = V (Proc.devRef .tc r) := by
  have h : ∀ {W : List (Ref sig .tc)}, (∀ r ∈ [main_arg0, main_v0, main_v3_0], r ∉ W) → r ∉ W := fun d => d r hr
  rw [trip, afterL_cons, afterL_cons, afterL_cons, afterL_cons, afterL_cons, afterL_cons, afterL_nil,
    carry_ok.keep _ (h (by decide)), write_ok.keep _ (h (by decide)), argmax_ok.keep _ (h (by decide)),
    dist_ok.keep _ (h (by decide)), gather_ok.keep _ (h (by decide)), pick_ok.keep _ (h (by decide)),
    cond_ok.keep _ (h (by decide))]

/-- The counter goes up by one. -/
theorem trip_ctr : trip V (Proc.devRef .tc main_v3_1)
    = addi (V (Proc.devRef .tc main_v3_1) : IVec S_ 32) (constantI S_ 32 1#32) := by
  simp (disch := decide) only [trip, afterL_cons, afterL_nil, carry_ctr, write_ok.keep, argmax_ok.keep, dist_ok.keep,
    gather_ok.keep, pick_ok.keep, cond_ok.keep]

/-- The distances become the new ones. -/
theorem trip_dists : trip V (Proc.devRef .tc main_v3_2) = tripDists V := by
  simp (disch := decide) only [trip, tripDists, newDists, afterL_cons, afterL_nil, carry_dists, write_ok.keep, argmax_ok.keep,
    dist_reads, gather_reads, pick_reads, gather_ok.keep, pick_ok.keep, cond_ok.keep]

/-- The last chosen indices become the found ones. -/
theorem trip_last : trip V (Proc.devRef .tc main_v3_3) = search (tripDists V) := by
  simp (disch := decide) only [trip, tripDists, newDists, afterL_cons, afterL_nil, carry_last, write_ok.keep, argmax_reads,
    dist_reads, gather_reads, pick_reads, gather_ok.keep, pick_ok.keep, cond_ok.keep]

/-- The row of the counter's number becomes the found indices. -/
theorem trip_out : trip V (Proc.devRef .tc main_v3_4)
    = writeRow (V (Proc.devRef .tc main_v3_4)) (V (Proc.devRef .tc main_v3_1)) (search (tripDists V)) := by
  simp (disch := decide) only [trip, tripDists, newDists, afterL_cons, afterL_nil, carry_out, write_reads, argmax_reads,
    dist_reads, gather_reads, pick_reads, argmax_ok.keep, dist_ok.keep, gather_ok.keep, pick_ok.keep, cond_ok.keep]

end

end Cert.RefRun

end
-- ==== Proof.RefRun.lean ====
/- The reference's run: it terminates, and every buffer holds what its stretches leave after 1023 trips of the loop. -/
module

public import proofs.«01_k».proof.Proof.RefTrip
public import Idealize.ShloMosaic.Lib.Scf.ExitTest
public import Idealize.ShloMosaic.Lib.Scf.Counter

@[expose] public section

noncomputable section

namespace Cert.RefRun

open Cert.ReferenceIdeal Cert.ReferenceIdeal.Gen
open Idealize.ShloMosaic Idealize.ShloMosaic.TcCoe Idealize.ShloMosaic.StableHlo Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs sub_ucRefs)

variable {F : FTy → Type} [FloatOps F]
variable (m : (ℓ : Loc nD τ sig) → Buf (Elt F) ℓ) (ρ : Dev nD → PrngReg) (c : Dev nD)

/-- Every buffer's contents before the first trip. -/
abbrev entered : Valuation τ sig (Elt F) := entryContents preI m c

/-- Every buffer's contents after `k` trips. -/
abbrev afterTrips (k : ℕ) : Valuation τ sig (Elt F) := atTrip condOps bodyI (entryContents preI m) k c

/-- The counter starts at 0. -/
theorem entered_ctr : entered m c (Proc.devRef .tc main_v3_1) = (constantI S_ 32 0#32 : IVec S_ 32) := by
  show after openOps (launchContents m c) (Proc.devRef .tc main_v3_1) = _
  after_results
  rfl

/-- After `k` trips it is at the `k`-th value of a loop from 0 by ones. -/
theorem afterTrips_ctr (k : ℕ) : afterTrips m c k (Proc.devRef .tc main_v3_1) = fun _ => Scf.iv 0#32 1#32 k := by
  induction k with
  | zero =>
    rw [Scf.iv_zero]
    exact entered_ctr m c
  | succ k ih =>
    refine (trip_ctr (afterTrips m c k)).trans ?_
    rw [ih, Scf.iv_succ]
    rfl

-- the rule of one host operation is stated for any thread and is applied here to the host's own
set_option backward.isDefEq.respectTransparency.types false in
/-- The condition, run before trip `k`, runs its two operations and holds as long as `k` is below 1023. -/
theorem cond_spec :
    CondSpec (pcfgs (F := F)) defs₀ loops (main_while0_cond (F := F)) condOps bodyI (entryContents preI m) 1023 := by
  intro k hk c bd
  have hctr := afterTrips_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (afterTrips m c k) main_v3_1 HostLoop.idx0)
        (HloOp.result _ (afterTrips m c k) main_while0c_c_6 HostLoop.idx0) = 1#1) (k < 1023)
    rw [nullary_result_ne _ _ _ _ (by decide), nullary_result, hctr]
    exact Scf.cmpi_slt_iv_ub_iff (lb := 0#32) (ub := 1023#32) (st := 1#32) (by decide)
      (show k ≤ Scf.trips 0#32 1023#32 1#32 from hk)
  isplitl [Hb]; · iexact Hb
  rw [after_cons, after_cons, after_nil]; iexact Hh

/-- What the program leaves: the closing stretch after the last condition after 1023 trips. -/
abbrev final : Valuation τ sig (Elt F) := afterL postI (after condOps (afterTrips m c 1023))

set_option maxRecDepth 100000 in
/-- From any memory with zero counters every weakly fair execution terminates, and leaves that in every buffer. -/
theorem run_final : θ_run (defs (F := F)) (onTc (τ := τ) (main (F := F))) ⟨m, fun _ => 0, ρ⟩ (fun r =>
    ∀ (c : Dev nD) (b : Ref sig .tc), (Proc.devRef .tc b : DevRef τ sig).isScoped = false →
      r.2.mem ((c.tc : Thread nD τ).loc b) = final m c (Proc.devRef .tc b)) :=
  run_loop (pcfgs (F := F)) defs₀ loops main 0 main_while0_cond main_while0_body rfl preI bodyI postI condOps
    (open_ok.plain .nil)
    (pick_ok.plain (gather_ok.plain (dist_ok.plain (argmax_ok.plain (write_ok.plain (carry_ok.plain .nil))))))
    (close_ok.plain .nil)
    (fun c => by rw [main_chain]; rfl) (by rw [body_chain]; rfl) 1023 m ρ (cond_spec m)

end Cert.RefRun

end
-- ==== Proof.RefPick.lean ====
/- One trip of the reference: the last chosen points are read, and the other points taken relative to them. -/
module

public import proofs.«01_k».proof.Proof.RefRun
public import proofs.«01_k».proof.Proof.KRow

@[expose] public section

noncomputable section

namespace Cert.RefVal

open Cert.ReferenceIdeal Cert.ReferenceIdeal.Gen Cert.Fps Cert.RefRun
open Idealize.ShloMosaic Idealize.ShloMosaic.TcCoe Idealize.ShloMosaic.ValueIdx Idealize.ShloMosaic.StableHlo

/-- The gather of one point per cloud reads the point its start index names. -/
theorem gather_apply (x : FVec Ideal S32x4096x3 .f32) (i : IVec S32x1x1 32) (b : Fin 32) (l : Fin 4096)
    (hi : i (ix3 b 0 0) = BitVec.ofNat 32 l.val) (c : Fin 3) :
    Host.gather gather_S32x4096x3_S32x1x1_S32x1x3_2_1_0_0_1_2_113 x i (ix3 b 0 c) = x (ix3 b l c) := by
  unfold Host.gather
  congr 1
  funext a
  refine Fin.ext ?_
  let d := gather_S32x4096x3_S32x1x1_S32x1x3_2_1_0_0_1_2_113
  show d.start (ix3 b 0 c) i a + d.batchCoord (ix3 b 0 c) a + d.offCoord (ix3 b 0 c) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ d.operandBatchingDims from List.mem_singleton.mpr rfl)]
    rfl
  · rw [GatherDims.batchCoord_eq_zero _ _ _ (fun h => by simp [d, gather_S32x4096x3_S32x1x1_S32x1x3_2_1_0_0_1_2_113] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ d.startIndexMap from List.mem_singleton.mpr rfl)]
    have hsi : d.siIdx (ix3 b 0 c) ⟨List.idxOf (1 : Fin 3) d.startIndexMap,
        List.idxOf_lt_length_iff.2 (List.mem_singleton.mpr rfl)⟩ = ix3 b 0 0 := by
      funext e; refine Fin.ext ?_
      match e with
      | ⟨0, _⟩ => rfl
      | ⟨1, _⟩ => rfl
      | ⟨2, _⟩ => rfl
    rw [hsi, hi, toInt_word (by have := l.isLt; omega)]
    show min l.val (4096 - 1) = l.val
    have := l.isLt
    omega
  · rw [GatherDims.batchCoord_eq_zero _ _ _ (fun h => by simp [d, gather_S32x4096x3_S32x1x1_S32x1x3_2_1_0_0_1_2_113] at h)]
    unfold GatherDims.start
    rw [dif_neg (fun h => by simp [d, gather_S32x4096x3_S32x1x1_S32x1x3_2_1_0_0_1_2_113] at h)]
    simp only [Nat.zero_add]
    rfl

/-- A conjunction of true bits is true. -/
theorem all_true {s t u : Shape} {axes : List (Fin s.rank)} (x : s.Idx → BitVec 1) (init : u.Idx → BitVec 1)
    (h : s.ReducesTo axes t) (hu : 0 < u.numel) (j : t.Idx) (hx : ∀ i, x i = 1#1) (hi : ∀ i, init i = 1#1) :
    Host.reduce IntOp.andi x init h hu j = 1#1 := by
  unfold Host.reduce
  rw [hi]
  generalize (List.finRange s.numel).filter _ = l
  induction l with
  | nil => rfl
  | cons a l ih => rw [List.foldl_cons, hx]; exact ih

section Trip
variable {w : IVec S32x1x1 32} {l : Fin 32 → Fin 4096}

/-- A column of indices that are points' numbers. -/
theorem column_apply {v : IVec S32 32} (hv : ∀ b, v (ix1 b) = BitVec.ofNat 32 (l b).val) (b : Fin 32) :
    column v (ix3 b 0 0) = BitVec.ofNat 32 (l b).val :=
  (broadcastInDim_apply _ _ _ _ (ix1 b) (fun a => by fin_cases a; rfl)).trans (hv b)

variable (hw : ∀ b, w (ix3 b 0 0) = BitVec.ofNat 32 (l b).val)
include hw

/-- Such an index is not negative, so it is taken as it is. -/
theorem wrap_apply (b : Fin 32) : wrap w (ix3 b 0 0) = BitVec.ofNat 32 (l b).val := by
  show Scalar.select (IntOp.cmpi .slt (w (ix3 b 0 0)) 0#32) _ (w (ix3 b 0 0)) = _
  rw [hw]
  have h : IntOp.cmpi .slt (BitVec.ofNat 32 (l b).val) 0#32 = 0#1 := by
    simp only [IntOp.cmpi, BitVec.slt, toInt_word (show (l b).val < 2147483648 by have := (l b).isLt; omega)]
    rw [decide_eq_false (by show ¬ ((l b).val : ℤ) < 0; omega)]
    rfl
  rw [h]
  rfl

/-- And it is in range. -/
theorem inRange_apply (i : S32x1x1.Idx) : inRange w i = 1#1 := by
  obtain ⟨b, rfl⟩ : ∃ b, i = ix3 b 0 0 :=
    ⟨i 0, by rw [eq_ix3 i]; congr 1 <;> exact Subsingleton.elim (α := Fin 1) _ _⟩
  show IntOp.andi (IntOp.cmpi .sge (w (ix3 b 0 0)) 0#32) (IntOp.cmpi .sle (w (ix3 b 0 0)) 4095#32) = 1#1
  rw [hw]
  have hlt : (l b).val < 4096 := (l b).isLt
  have e := toInt_word (show (l b).val < 2147483648 by omega)
  have h0 : IntOp.cmpi .sge (BitVec.ofNat 32 (l b).val) 0#32 = 1#1 := by
    simp only [IntOp.cmpi, BitVec.sle, e]
    rw [decide_eq_true (by show (0 : ℤ) ≤ ((l b).val : ℤ); omega)]
    rfl
  have h1 : IntOp.cmpi .sle (BitVec.ofNat 32 (l b).val) 4095#32 = 1#1 := by
    simp only [IntOp.cmpi, BitVec.sle, e]
    rw [decide_eq_true (by show ((l b).val : ℤ) ≤ 4095; omega)]
    rfl
  rw [h0, h1]
  rfl

/-- So the points read are the ones of these numbers. -/
theorem pointsAt_apply (x : FVec Ideal S32x4096x3 .f32) (b : Fin 32) (c : Fin 3) :
    pointsAt x w (ix3 b 0 c) = x (ix3 b (l b) c) := by
  refine (select_apply _ _ _ _).trans ?_
  have hmask := all_true (t := S32x1) (u := S_) _ (constantI S_ 1 1#1) reducesTo_S32x1x1_S32x1_d2 h_S_ (ix2 b 0)
    (inRange_apply hw) (fun _ => rfl)
  have hm := (broadcastInDim_apply ![0, 1] bcast_S32x1_S32x1x3_0_1 _ (ix3 b 0 c) (ix2 b 0)
    (fun a => by fin_cases a <;> rfl)).trans hmask
  refine (congrArg (fun w => Scalar.select w _ _) hm).trans ?_
  exact gather_apply _ _ b (l b) (hw b) c

end Trip

/-- A coordinate relative to one point of its cloud. -/
theorem relative_apply (x : FVec Ideal S32x4096x3 .f32) (q : FVec Ideal S32x1x3 .f32) (b : Fin 32) (j : Fin 4096) (c : Fin 3) :
    relative x q (ix3 b j c) = x (ix3 b j c) - q (ix3 b 0 c) :=
  (subf_apply _ _ _).trans (congrArg (x (ix3 b j c) - ·)
    (broadcastInDim_apply _ _ _ _ (ix3 b 0 c) (fun a => by fin_cases a <;> rfl)))

end Cert.RefVal

end
-- ==== Proof.RefStep.lean ====
/- One trip of the reference: the new distances and the next chosen index. -/
module

public import proofs.«01_k».proof.Proof.RefPick

@[expose] public section

noncomputable section

namespace Cert.RefVal

open Cert.ReferenceIdeal Cert.ReferenceIdeal.Gen Cert.Fps Cert.RefRun
open Idealize.ShloMosaic Idealize.ShloMosaic.TcCoe Idealize.ShloMosaic.ValueIdx Idealize.ShloMosaic.StableHlo

/-- The sum over the coordinates reduces the last axis. -/
theorem reduces_coords : S32x4096x3.Reduces [2] S32x4096 := by decide

/-- Coordinate `c` of point `j` is where the sum over the coordinates reads its `c`-th entry. -/
theorem lift_coords (b : Fin 32) (j : Fin 4096) (c : Fin 3) :
    reduces_coords.lift (ix2 b j) c = (ix3 b j c : S32x4096x3.Idx) := by
  funext a
  apply Fin.ext
  match a with
  | ⟨0, _⟩ => rfl
  | ⟨1, _⟩ => rfl
  | ⟨2, _⟩ => rfl

/-- The host's sum over the coordinates of a point. -/
theorem coordSum_apply (x : FVec Ideal S32x4096x3 .f32) (b : Fin 32) (j : Fin 4096) :
    Host.reduceAdd x (constant (F := Ideal) S_ .f32 0x00000000#32) reducesTo_S32x4096x3_S32x4096_d2 h_S_ (ix2 b j)
      = ∑ c : Fin 3, x (ix3 b j c) := by
  refine (Ideal.hostReduceAdd_single reducesTo_S32x4096x3_S32x4096_d2 reduces_coords x _ (ix2 b j)).trans ?_
  have h0 : (constant (F := Ideal) S_ .f32 0x00000000#32) (Shape.Idx.first h_S_) = (0 : EReal) := Ideal.ofBits_zero_f32
  rw [h0, zero_add]
  exact Finset.sum_congr rfl fun c _ => congrArg x (lift_coords b j c)

/-- The comparison of the search: the result is one of the two pairs, and at least as good as both. -/
theorem reducer_best (a b : EReal × BitVec 32) :
    (reducer_argmax_f32_i32 (F := Ideal) a b = a ∨ reducer_argmax_f32_i32 (F := Ideal) a b = b)
      ∧ PairLe a (reducer_argmax_f32_i32 (F := Ideal) a b) ∧ PairLe b (reducer_argmax_f32_i32 (F := Ideal) a b) := by
  obtain ⟨a1, a2⟩ := a
  obtain ⟨b1, b2⟩ := b
  have key : reducer_argmax_f32_i32 (F := Ideal) (a1, a2) (b1, b2)
      = if b1 < a1 then (a1, a2) else (b1, if a1 = b1 ∧ a2.toInt < b2.toInt then a2 else b2) := by
    unfold reducer_argmax_f32_i32
    simp only [Ideal.cmpf_def, Ideal.cmp, IntOp.cmpi, BitVec.slt, IntOp.ori, IntOp.andi, Scalar.select]
    by_cases h1 : b1 < a1 <;> by_cases h2 : a1 = b1 <;> by_cases h3 : a2.toInt < b2.toInt <;> simp [h1, h2, h3]
  rw [key]
  by_cases h1 : b1 < a1
  · rw [if_pos h1]
    exact ⟨Or.inl rfl, PairLe.refl _, Or.inl h1⟩
  · rw [if_neg h1]
    rcases lt_or_eq_of_le (not_lt.mp h1) with h2 | h2
    · rw [if_neg (fun h => (ne_of_lt h2) h.1)]
      exact ⟨Or.inr rfl, Or.inl h2, PairLe.refl _⟩
    · by_cases h3 : a2.toInt < b2.toInt
      · rw [if_pos ⟨h2, h3⟩, ← h2]
        exact ⟨Or.inl rfl, PairLe.refl _, Or.inr ⟨rfl, le_of_lt h3⟩⟩
      · rw [if_neg (fun h => h3 h.2), ← h2]
        exact ⟨Or.inr rfl, Or.inr ⟨rfl, not_lt.mp h3⟩, PairLe.refl _⟩

/-- The search over the points keeps an index's cloud. -/
theorem drop_point (b : Fin 32) (j : Fin 4096) : reducesTo_S32x4096_S32_d1.drop (ix2 b j) = (ix1 b : S32.Idx) := by
  funext a
  match a with
  | ⟨0, _⟩ => rfl

/-- The pairs the search of cloud `b` runs over are its points' values and numbers. -/
theorem mem_fiber (d : FVec Ideal S32x4096 .f32) (b : Fin 32) (e : EReal × BitVec 32) :
    e ∈ Host.argReduceFiber d (iotaInDim S32x4096 32 1) reducesTo_S32x4096_S32_d1 (ix1 b : S32.Idx)
      ↔ ∃ j : Fin 4096, e = (d (ix2 b j), BitVec.ofNat 32 j.val) := by
  unfold Host.argReduceFiber
  rw [List.mem_map]
  constructor
  · rintro ⟨n, hn, rfl⟩
    have h := (List.mem_filter.1 hn).2
    rw [decide_eq_true_iff] at h
    generalize S32x4096.rowMajor.symm n = i at h ⊢
    obtain ⟨b', j, rfl⟩ : ∃ b' j, i = ix2 b' j := ⟨i 0, i 1, eq_ix2 i⟩
    rw [drop_point] at h
    have hb : b' = b := congrFun h 0
    subst hb
    exact ⟨j, rfl⟩
  · rintro ⟨j, rfl⟩
    refine ⟨S32x4096.rowMajor (ix2 b j), List.mem_filter.2 ⟨List.mem_finRange _, ?_⟩, ?_⟩
    · rw [decide_eq_true_iff, Equiv.symm_apply_apply]
      exact drop_point b j
    · rw [Equiv.symm_apply_apply]
      rfl

/-- The search finds the first point of cloud `b` with the largest value. -/
theorem search_apply (d : FVec Ideal S32x4096 .f32) (b : Fin 32) :
    search d (ix1 b) = BitVec.ofNat 32 (firstMax fun j => d (ix2 b j)).val := by
  have hbot : (constant (F := Ideal) S_ .f32 0xFF800000#32) (Shape.Idx.first h_S_) = (⊥ : EReal) := by
    show Ideal.ofBits .f32 0xFF800000#32 = _
    simp [Ideal.ofBits, Ideal.ieee]
  have h := foldl_pairs_firstMax _ reducer_best (fun j => d (ix2 b j)) _ (mem_fiber d b)
  refine Eq.trans (congrArg Prod.snd ?_) h
  refine (congrFun (Ideal.argReduce_eq_reduce2 _ _ _ _ _ _ _) _).trans ?_
  refine (Host.reduce2_eq_foldl_fiber _ _ _ _ _ _ _ _).trans ?_
  rw [hbot]
  rfl

/-- The new distance of a point: the old one, or the squared distance to the last chosen point. -/
theorem newDists_apply (x : FVec Ideal S32x4096x3 .f32) (d : FVec Ideal S32x4096 .f32) {v : IVec S32 32}
    {l : Fin 32 → Fin 4096} (hv : ∀ b, v (ix1 b) = BitVec.ofNat 32 (l b).val) (b : Fin 32) (j : Fin 4096) :
    newDists x d v (ix2 b j) = min (d (ix2 b j)) (sqDist (fun j c => x (ix3 b j c)) (l b) j) := by
  refine (minimumf_apply _ _ _).trans (congrArg (min (d (ix2 b j))) ?_)
  refine (coordSum_apply _ b j).trans (Finset.sum_congr rfl fun c _ => ?_)
  refine (mulf_apply _ _ _).trans ?_
  rw [relative_apply, pointsAt_apply (wrap_apply (column_apply hv))]

end Cert.RefVal

end
-- ==== Proof.RefLoop.lean ====
/- The reference's loop: after `k` trips the carried buffers hold `k` steps of every cloud. -/
module

public import proofs.«01_k».proof.Proof.RefStep
public import Idealize.ShloMosaic.Lib.WordCmp
public import Idealize.ShloMosaic.Lib.Pointwise.ShapeOpsCore

@[expose] public section

noncomputable section

namespace Cert.RefVal

open Cert.ReferenceIdeal Cert.ReferenceIdeal.Gen Cert.Fps Cert.RefRun
open Idealize.ShloMosaic hiding ix1 ix2 ix3
open Idealize.ShloMosaic.TcCoe Idealize.ShloMosaic.ValueIdx Idealize.ShloMosaic.StableHlo

section Carried
variable (V : Valuation τ sig (Elt Ideal))

/-- The points that a trip starts from. -/
abbrev xs : FVec Ideal S32x4096x3 .f32 := V (Proc.devRef .tc main_v3_0)
/-- The counter. -/
abbrev ks : IVec S_ 32 := V (Proc.devRef .tc main_v3_1)
/-- The distances. -/
abbrev ds : FVec Ideal S32x4096 .f32 := V (Proc.devRef .tc main_v3_2)
/-- The last chosen indices. -/
abbrev ls : IVec S32 32 := V (Proc.devRef .tc main_v3_3)
/-- The rows of chosen indices: row `i` is filled by trip `i`. -/
abbrev os : IVec S1023x32 32 := V (Proc.devRef .tc main_v3_4)

end Carried

/-- The carried buffers after `k` trips over the clouds `p`. -/
structure At (p : Fin 32 → Fin 4096 → Fin 3 → EReal) (k : ℕ) (V : Valuation τ sig (Elt Ideal)) : Prop where
  /-- the points, unchanged; -/
  pts : ∀ b j c, xs V (ix3 b j c) = p b j c
  /-- the trip's number; -/
  ctr : ks V = fun _ => BitVec.ofNat 32 k
  /-- the distances of the state; -/
  dists : ∀ b j, ds V (ix2 b j) = (state (p b) k).1 j
  /-- its last chosen index; -/
  last : ∀ b, ls V (ix1 b) = BitVec.ofNat 32 (state (p b) k).2.val
  /-- and in the rows filled so far the indices chosen so far. -/
  out : ∀ (i : Fin 1023) (b : Fin 32), i.val < k → os V (ix2 i b) = BitVec.ofNat 32 (state (p b) (i.val + 1)).2.val

section Trip
variable {p : Fin 32 → Fin 4096 → Fin 3 → EReal} {k : ℕ} {V : Valuation τ sig (Elt Ideal)} (h : At p k V)
include h

/-- The new distances are the next state's. -/
theorem At.dists_next (b : Fin 32) (j : Fin 4096) : tripDists V (ix2 b j) = (state (p b) (k + 1)).1 j := by
  rw [tripDists, newDists_apply _ _ h.last, state_succ_fst]
  have e : (fun j c => xs V (ix3 b j c)) = p b := funext fun j => funext fun c => h.pts b j c
  exact congrArg₂ min (h.dists b j) (congrArg (sqDist · _ j) e)

/-- The found index is the next state's. -/
theorem At.last_next (b : Fin 32) : search (tripDists V) (ix1 b) = BitVec.ofNat 32 (state (p b) (k + 1)).2.val := by
  rw [search_apply, state_succ_snd]
  congr 3
  funext j
  exact h.dists_next b j

/-- A trip writes its row of chosen indices and leaves the other rows. -/
theorem At.newRow (hk : k < 1023) (i : Fin 1023) (b : Fin 32) : writeRow (os V) (ks V) (search (tripDists V)) (ix2 i b)
    = if i.val = k then BitVec.ofNat 32 (state (p b) (k + 1)).2.val else os V (ix2 i b) := by
  have hs : S1023x32.Slices ![k, 0] S1x32 :=
    ⟨rfl, fun a => match a with
      | ⟨0, _⟩ => (by omega : k + 1 ≤ 1023)
      | ⟨1, _⟩ => (by decide : 0 + 32 ≤ 32)⟩
  have e : writeRow (os V) (ks V) (search (tripDists V))
      = updateSlice (os V) (broadcastInDim S1x32 ![1] bcast_S32_S1x32_1 (search (tripDists V))) ![k, 0] hs := by
    refine WordCmp.dynamicUpdateSlice_eq_update _ _ _ updateFits_S1023x32_S1x32 _ hs fun a => ?_
    match a with
    | ⟨0, _⟩ =>
      show (ks V _).toInt = (k : ℤ)
      rw [h.ctr]
      exact toInt_word (by omega)
    | ⟨1, _⟩ => rfl
  rw [e, updateSlice_apply]
  by_cases hi : i.val = k
  · rw [if_pos hi, dif_pos (fun a => match a with
      | ⟨0, _⟩ => (⟨by omega, by omega⟩ : k ≤ i.val ∧ i.val < k + 1)
      | ⟨1, _⟩ => (⟨by omega, by omega⟩ : 0 ≤ b.val ∧ b.val < 0 + 32))]
    exact (broadcastInDim_apply _ _ _ _ (ix1 b) (fun a => by fin_cases a; rfl)).trans (h.last_next b)
  · rw [if_neg hi, dif_neg (fun hin => hi (by
      have h0 : k ≤ i.val ∧ i.val < k + 1 := hin 0
      omega))]

/-- One trip is one step of every cloud. -/
theorem At.step (hk : k < 1023) : At p (k + 1) (trip V) where
  pts b j c := (congrFun (trip_keep V (r := main_v3_0) (by decide)) _).trans (h.pts b j c)
  ctr := by
    refine (trip_ctr V).trans ?_
    rw [show (V (Proc.devRef .tc main_v3_1) : IVec S_ 32) = _ from h.ctr]
    funext _
    show BitVec.ofNat 32 k + BitVec.ofNat 32 1 = _
    rw [← BitVec.ofNat_add]
  dists b j := (congrFun (trip_dists V) _).trans (h.dists_next b j)
  last b := (congrFun (trip_last V) _).trans (h.last_next b)
  out i b hi := by
    refine (congrFun (trip_out V) _).trans ((h.newRow hk i b).trans ?_)
    by_cases e : i.val = k
    · rw [if_pos e, e]
    · rw [if_neg e, h.out i b (by omega)]

end Trip

variable (m : (ℓ : Loc nD τ sig) → Buf (Elt Ideal) ℓ)

/-- The points of device `c`'s argument: cloud `b`, point `j`, coordinate `a`. -/
def pts (c : Dev nD) (b : Fin 32) (j : Fin 4096) (a : Fin 3) : EReal :=
  (m ((c : Thread nD τ).loc main_arg0) : FVec Ideal S32x4096x3 .f32) (ix3 b j a)

/-- Before the first trip the carried buffers hold the first state. -/
theorem entered_at (c : Dev nD) : At (pts m c) 0 (entered m c) where
  pts b j a := by
    refine congrFun (?_ : xs (entered m c) = (m ((c : Thread nD τ).loc main_arg0) : FVec Ideal S32x4096x3 .f32)) _
    show after openOps (launchContents m c) (Proc.devRef .tc main_v3_0) = _
    after_results
    rfl
  ctr := entered_ctr m c
  dists b j := by
    have e : ds (entered m c)
        = broadcastInDim S32x4096 ![] bcast_S_S32x4096 (constant (F := Ideal) S_ .f32 0x7F800000#32) := by
      show after openOps (launchContents m c) (Proc.devRef .tc main_v3_2) = _
      after_results
      rfl
    rw [e]
    show Ideal.ofBits .f32 0x7F800000#32 = _
    simp [Ideal.ofBits, Ideal.ieee, state_zero]
  last b := by
    have e : ls (entered m c) = broadcastInDim S32 ![] bcast_S_S32 (constantI S_ 32 0#32) := by
      show after openOps (launchContents m c) (Proc.devRef .tc main_v3_3) = _
      after_results
      rfl
    rw [e]
    rfl
  out i b hi := absurd hi (Nat.not_lt_zero _)

/-- After `k` trips they hold `k` steps of every cloud. -/
theorem trips_at (c : Dev nD) {k : ℕ} (hk : k ≤ 1023) : At (pts m c) k (afterTrips m c k) := by
  induction k with
  | zero => exact entered_at m c
  | succ k ih => exact (ih (by omega)).step (by omega)

/-- The argument and the row of zeros are after `k` trips as before the first. -/
theorem trips_keep (c : Dev nD) {r : Ref sig .tc} (hr : r ∈ [main_arg0, main_v0, main_v3_0]) (k : ℕ) :
    afterTrips m c k (Proc.devRef .tc r) = entered m c (Proc.devRef .tc r) := by
  induction k with
  | zero => rfl
  | succ k ih => exact (trip_keep (afterTrips m c k) hr).trans ih

end Cert.RefVal

end
-- ==== Proof.RefFinal.lean ====
/- What the reference returns: the first row, joined to the rows that the loop wrote, transposed. -/
module

public import proofs.«01_k».proof.Proof.RefLoop
public import proofs.«01_k».proof.Proof.KBlock
public import Idealize.ShloMosaic.Lib.Pipeline.Value

@[expose] public section

noncomputable section

namespace Cert.RefVal

open Cert.ReferenceIdeal Cert.ReferenceIdeal.Gen Cert.Fps Cert.RefRun
open Idealize.ShloMosaic hiding ix1 ix2 ix3 eq_ix2
open Idealize.ShloMosaic.TcCoe Idealize.ShloMosaic.ValueIdx Idealize.ShloMosaic.StableHlo
open Idealize.SL.Sem

variable (m : (ℓ : Loc nD τ sig) → Buf (Elt Ideal) ℓ) (ρ : Dev nD → PrngReg) (c : Dev nD)

/-- The contents when the loop has ended: the last condition has run. -/
abbrev ended : Valuation τ sig (Elt Ideal) := after condOps (afterTrips m c 1023)

/-- The row of zeros made before the loop is still there after it. -/
theorem ended_zero : (ended m c (Proc.devRef .tc main_v0) : IVec S32 32)
    = broadcastInDim S32 ![] bcast_S_S32 (constantI S_ 32 0#32) := by
  rw [ended, cond_ok.keep _ (by decide), trips_keep m c (by decide)]
  show after openOps (launchContents m c) (Proc.devRef .tc main_v0) = _
  after_results

/-- So is the argument. -/
theorem ended_arg : ended m c (Proc.devRef .tc main_arg0) = m ((c : Thread nD τ).loc main_arg0) := by
  rw [ended, cond_ok.keep _ (by decide), trips_keep m c (by decide)]
  exact open_ok.keep _ (by decide)

/-- The rows that the loop wrote hold the indices chosen in the steps from 1 on. -/
theorem ended_rows (i : Fin 1023) (b : Fin 32) :
    os (ended m c) (ix2 i b) = BitVec.ofNat 32 (state (pts m c b) (i.val + 1)).2.val :=
  (congrFun (cond_ok.keep (afterTrips m c 1023) (r := main_v3_4) (by decide)) _).trans
    ((trips_at m c le_rfl).out i b i.isLt)

/-- The last operations join the row of zeros to the loop's rows and transpose. -/
theorem close_out (X : Valuation τ sig (Elt Ideal)) : (after closeOps X (Proc.devRef .tc main_v6) : IVec S32x1024 32)
    = transpose S32x1024 [1, 0] (concatenate S1024x32 0
        [⟨S1x32, broadcastInDim S1x32 ![1] bcast_S32_S1x32_1 (X (Proc.devRef .tc main_v0) : IVec S32 32)⟩, ⟨S1023x32, os X⟩]
        concatenates_S1x32_S1023x32_S1024x32_d0) transposes_S1024x32_S32x1024_1_0 := by
  after_results

/-- The returned index of cloud `b` and rank `k` is the one chosen at step `k`. -/
theorem final_out (b : Fin 32) (k : Fin 1024) :
    (final m c (Proc.devRef .tc main_v6) : IVec S32x1024 32) (ix2 b k) = KBlock.chosen (pts m c) b k.val := by
  rw [final, afterL_cons, afterL_nil, close_out, transpose_apply _ _ _ _ (ix2 k b) (fun a => by fin_cases a <;> rfl)]
  by_cases hk : k.val = 0
  · refine (concatenate_pair_apply_left (t := S1024x32) (s₁ := S1x32) (s₂ := S1023x32) 0 _ _ _ _ rfl (ix2 (0 : Fin 1) b) ?_).trans ?_
    · intro a
      fin_cases a
      · exact hk.symm
      · rfl
    rw [broadcastInDim_apply _ _ _ _ (ix1 b) (fun a => by fin_cases a; rfl)]
    refine (congrFun (ended_zero m c) _).trans ?_
    unfold KBlock.chosen
    rw [hk, state_zero]
    rfl
  · refine (concatenate_pair_apply_right (t := S1024x32) (s₁ := S1x32) (s₂ := S1023x32) 0 _ _ _ _ rfl rfl (ix2 (⟨k.val - 1, by omega⟩ : Fin 1023) b) ?_ ?_).trans ?_
    · intro a ha
      fin_cases a
      · exact absurd rfl ha
      · rfl
    · show k.val - 1 + 1 = k.val
      omega
    refine (ended_rows m c _ b).trans ?_
    unfold KBlock.chosen
    rw [show k.val - 1 + 1 = k.val by omega]

/-- The reference's run: it returns the chosen indices and leaves its argument as it was. -/
theorem run : θ_run defs (onTc (main (F := Ideal))) ⟨m, fun _ => 0, ρ⟩ fun r => ∀ c : Dev nD,
    r.2.mem ((c : Thread nD τ).loc main_v6) = (fun i => KBlock.chosen (pts m c) (i 0) (i 1).val : S32x1024.Idx → BitVec 32)
    ∧ r.2.mem ((c : Thread nD τ).loc main_arg0) = m ((c : Thread nD τ).loc main_arg0) :=
  (θ_run defs _ _).mono (fun _ h c => ⟨(h c main_v6 (by decide)).trans (funext fun i => by
      conv_lhs => rw [eq_ix2 i]
      exact final_out m c (i 0) (i 1)),
    (h c main_arg0 (by decide)).trans ((close_ok.keep _ (by decide)).trans (ended_arg m c))⟩) (run_final m ρ)

end Cert.RefVal

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.KArr
public import proofs.«01_k».proof.Proof.RefFinal
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel terminates, leaves its argument alone and every semaphore counter at zero. -/
theorem kernel_frame : Cert.quiescent_Kernel := fun m ρ _ => Cert.Kernel.Gen.frame m ρ

/-- So does the ideal kernel. -/
theorem kernelIdeal_frame : Cert.quiescent_KernelIdeal := fun m ρ _ => Cert.KernelIdeal.Gen.frame m ρ

/-- So does the reference, which has no semaphores. -/
theorem reference_frame : Cert.quiescent_ReferenceIdeal := fun m ρ _ =>
  (θ_run Cert.ReferenceIdeal.defs _ _).mono
    (fun r h => ⟨fun c => (h c).2, sem_eq_zero_of_no_sems (by decide) r.2⟩) (Cert.RefVal.run m ρ)

/-- Kernel and reference return the same indices: from equal arguments both return the chosen ones. -/
theorem same_indices : Cert.algebraic_KernelIdeal_ReferenceIdeal := by
  intro m ρ m' ρ' _ hagree
  refine ⟨fun c => Cert.KArr.result m c, Cert.KArr.run m ρ, ?_⟩
  refine (θ_run _ _ _).mono (fun _ h c => ⟨(h c).1.trans ?_, (h c).2⟩) (Cert.RefVal.run m' ρ')
  have e : Cert.RefVal.pts m' c = Cert.KArr.pts m c := by
    funext b j a
    exact congrFun (hagree c) _
  rw [e]
  rfl

/-- All five claims. -/
theorem claim : Cert.Claim := ⟨Cert.Kernel.Gen.facts, Cert.KernelIdeal.Gen.facts, Cert.ReferenceIdeal.Gen.facts,
  kernel_frame, kernelIdeal_frame, reference_frame, trivial, same_indices⟩

end Cert.Proof

end
